-- ==== Defs.lean ====
def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_MixFfn (m : (ℓ : Loc Cert.MixFfn.nD Cert.MixFfn.τ Cert.MixFfn.sig) → Buf (Elt Bits) ℓ) : Prop :=
  True

def Pre_MixFfnIdeal (m : (ℓ : Loc Cert.MixFfnIdeal.nD Cert.MixFfnIdeal.τ Cert.MixFfnIdeal.sig) → Buf (Elt Ideal) ℓ) : Prop :=
  True

def Pre_MixFfnRefIdeal (m : (ℓ : Loc Cert.MixFfnRefIdeal.nD Cert.MixFfnRefIdeal.τ Cert.MixFfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OddInS5 (m : (ℓ : Loc Cert.OddInS5.nD Cert.OddInS5.τ Cert.OddInS5.sig) → Buf (Elt Bits) ℓ) : Prop :=
  True

def Pre_OddInS5Ideal (m : (ℓ : Loc Cert.OddInS5Ideal.nD Cert.OddInS5Ideal.τ Cert.OddInS5Ideal.sig) → Buf (Elt Ideal) ℓ) : Prop :=
  True

def Pre_OddInS5RefIdeal (m : (ℓ : Loc Cert.OddInS5RefIdeal.nD Cert.OddInS5RefIdeal.τ Cert.OddInS5RefIdeal.sig) → Buf (Elt Ideal) ℓ) : Prop :=
  True

def Pre_OddInRw (m : (ℓ : Loc Cert.OddInRw.nD Cert.OddInRw.τ Cert.OddInRw.sig) → Buf (Elt Bits) ℓ) : Prop :=
  True

def Pre_OddInRwIdeal (m : (ℓ : Loc Cert.OddInRwIdeal.nD Cert.OddInRwIdeal.τ Cert.OddInRwIdeal.sig) → Buf (Elt Ideal) ℓ) : Prop :=
  True

def Pre_OddInRwRefIdeal (m : (ℓ : Loc Cert.OddInRwRefIdeal.nD Cert.OddInRwRefIdeal.τ Cert.OddInRwRefIdeal.sig) → Buf (Elt Ideal) ℓ) : Prop :=
  True

def Pre_S5Post (m : (ℓ : Loc Cert.S5Post.nD Cert.S5Post.τ Cert.S5Post.sig) → Buf (Elt Bits) ℓ) : Prop :=
  True

def Pre_S5PostIdeal (m : (ℓ : Loc Cert.S5PostIdeal.nD Cert.S5PostIdeal.τ Cert.S5PostIdeal.sig) → Buf (Elt Ideal) ℓ) : Prop :=
  True

def Pre_S5PostRefIdeal (m : (ℓ : Loc Cert.S5PostRefIdeal.nD Cert.S5PostRefIdeal.τ Cert.S5PostRefIdeal.sig) → Buf (Elt Ideal) ℓ) : Prop :=
  True

def Pre_S5Disc (m : (ℓ : Loc Cert.S5Disc.nD Cert.S5Disc.τ Cert.S5Disc.sig) → Buf (Elt Bits) ℓ) : Prop :=
  True

def Pre_S5DiscIdeal (m : (ℓ : Loc Cert.S5DiscIdeal.nD Cert.S5DiscIdeal.τ Cert.S5DiscIdeal.sig) → Buf (Elt Ideal) ℓ) : Prop :=
  True

def Pre_S5DiscRefIdeal (m : (ℓ : Loc Cert.S5DiscRefIdeal.nD Cert.S5DiscRefIdeal.τ Cert.S5DiscRefIdeal.sig) → Buf (Elt Ideal) ℓ) : Prop :=
  True

def Pre_AttnPrep (m : (ℓ : Loc Cert.AttnPrep.nD Cert.AttnPrep.τ Cert.AttnPrep.sig) → Buf (Elt Bits) ℓ) : Prop :=
  True

def Pre_AttnPrepIdeal (m : (ℓ : Loc Cert.AttnPrepIdeal.nD Cert.AttnPrepIdeal.τ Cert.AttnPrepIdeal.sig) → Buf (Elt Ideal) ℓ) : Prop :=
  True

def Pre_AttnPrepRefIdeal (m : (ℓ : Loc Cert.AttnPrepRefIdeal.nD Cert.AttnPrepRefIdeal.τ Cert.AttnPrepRefIdeal.sig) → Buf (Elt Ideal) ℓ) : Prop :=
  True

def Pre_DiffAttn (m : (ℓ : Loc Cert.DiffAttn.nD Cert.DiffAttn.τ Cert.DiffAttn.sig) → Buf (Elt Bits) ℓ) : Prop :=
  True

def Pre_DiffAttnIdeal (m : (ℓ : Loc Cert.DiffAttnIdeal.nD Cert.DiffAttnIdeal.τ Cert.DiffAttnIdeal.sig) → Buf (Elt Ideal) ℓ) : Prop :=
  True

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_MixFfn [hMixFfn : Cert.MixFfn.Facts] : Prop :=
  ∀ (m : (ℓ : Loc Cert.MixFfn.nD Cert.MixFfn.τ Cert.MixFfn.sig) → Buf (Elt Bits) ℓ) (g : Dev Cert.MixFfn.nD → PrngReg), Pre_MixFfn m →
    θ_run (Cert.MixFfn.defs (F := Bits)) (onTc (τ := Cert.MixFfn.τ) (Cert.MixFfn.main (F := Bits))) ⟨m, fun _ => 0, g⟩ (fun r => (∀ c : Dev Cert.MixFfn.nD,
      r.2.mem ((c.tc : Thread Cert.MixFfn.nD Cert.MixFfn.τ).loc Cert.MixFfn.main_arg0) = m ((c.tc : Thread Cert.MixFfn.nD Cert.MixFfn.τ).loc Cert.MixFfn.main_arg0)
      ∧ r.2.mem ((c.tc : Thread Cert.MixFfn.nD Cert.MixFfn.τ).loc Cert.MixFfn.main_arg1) = m ((c.tc : Thread Cert.MixFfn.nD Cert.MixFfn.τ).loc Cert.MixFfn.main_arg1)
      ∧ r.2.mem ((c.tc : Thread Cert.MixFfn.nD Cert.MixFfn.τ).loc Cert.MixFfn.main_arg2) = m ((c.tc : Thread Cert.MixFfn.nD Cert.MixFfn.τ).loc Cert.MixFfn.main_arg2)
      ∧ r.2.mem ((c.tc : Thread Cert.MixFfn.nD Cert.MixFfn.τ).loc Cert.MixFfn.main_arg3) = m ((c.tc : Thread Cert.MixFfn.nD Cert.MixFfn.τ).loc Cert.MixFfn.main_arg3)
      ∧ r.2.mem ((c.tc : Thread Cert.MixFfn.nD Cert.MixFfn.τ).loc Cert.MixFfn.main_arg4) = m ((c.tc : Thread Cert.MixFfn.nD Cert.MixFfn.τ).loc Cert.MixFfn.main_arg4)
      ∧ r.2.mem ((c.tc : Thread Cert.MixFfn.nD Cert.MixFfn.τ).loc Cert.MixFfn.main_arg5) = m ((c.tc : Thread Cert.MixFfn.nD Cert.MixFfn.τ).loc Cert.MixFfn.main_arg5)
      ∧ r.2.mem ((c.tc : Thread Cert.MixFfn.nD Cert.MixFfn.τ).loc Cert.MixFfn.main_arg6) = m ((c.tc : Thread Cert.MixFfn.nD Cert.MixFfn.τ).loc Cert.MixFfn.main_arg6)
      ∧ r.2.mem ((c.tc : Thread Cert.MixFfn.nD Cert.MixFfn.τ).loc Cert.MixFfn.main_arg7) = m ((c.tc : Thread Cert.MixFfn.nD Cert.MixFfn.τ).loc Cert.MixFfn.main_arg7))
      ∧ r.2.sem = fun _ => 0)

def quiescent_MixFfnIdeal [hMixFfnIdeal : Cert.MixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg), Pre_MixFfnIdeal m →
    θ_run (Cert.MixFfnIdeal.defs (F := Ideal)) (onTc (τ := Cert.MixFfnIdeal.τ) (Cert.MixFfnIdeal.main (F := Ideal))) ⟨m, fun _ => 0, g⟩ (fun r => (∀ c : Dev Cert.MixFfnIdeal.nD,
      r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
      ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
      ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
      ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
      ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
      ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
      ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
      ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7))
      ∧ r.2.sem = fun _ => 0)

def quiescent_MixFfnRefIdeal [hMixFfnRefIdeal : Cert.MixFfnRefIdeal.Facts] : Prop :=
  ∀ (m : (ℓ : Loc Cert.MixFfnRefIdeal.nD Cert.MixFfnRefIdeal.τ Cert.MixFfnRefIdeal.sig) → Buf (Elt Ideal) ℓ) (g : Dev Cert.MixFfnRefIdeal.nD → PrngReg), Pre_MixFfnRefIdeal m →
    θ_run (Cert.MixFfnRefIdeal.defs (F := Ideal)) (onTc (τ := Cert.MixFfnRefIdeal.τ) (Cert.MixFfnRefIdeal.main (F := Ideal))) ⟨m, fun _ => 0, g⟩ (fun r => (∀ c : Dev Cert.MixFfnRefIdeal.nD,
      r.2.mem ((c.tc : Thread Cert.MixFfnRefIdeal.nD Cert.MixFfnRefIdeal.τ).loc Cert.MixFfnRefIdeal.main_arg0) = m ((c.tc : Thread Cert.MixFfnRefIdeal.nD Cert.MixFfnRefIdeal.τ).loc Cert.MixFfnRefIdeal.main_arg0)
      ∧ r.2.mem ((c.tc : Thread Cert.MixFfnRefIdeal.nD Cert.MixFfnRefIdeal.τ).loc Cert.MixFfnRefIdeal.main_arg1) = m ((c.tc : Thread Cert.MixFfnRefIdeal.nD Cert.MixFfnRefIdeal.τ).loc Cert.MixFfnRefIdeal.main_arg1)
      ∧ r.2.mem ((c.tc : Thread Cert.MixFfnRefIdeal.nD Cert.MixFfnRefIdeal.τ).loc Cert.MixFfnRefIdeal.main_arg2) = m ((c.tc : Thread Cert.MixFfnRefIdeal.nD Cert.MixFfnRefIdeal.τ).loc Cert.MixFfnRefIdeal.main_arg2)
      ∧ r.2.mem ((c.tc : Thread Cert.MixFfnRefIdeal.nD Cert.MixFfnRefIdeal.τ).loc Cert.MixFfnRefIdeal.main_arg3) = m ((c.tc : Thread Cert.MixFfnRefIdeal.nD Cert.MixFfnRefIdeal.τ).loc Cert.MixFfnRefIdeal.main_arg3)
      ∧ r.2.mem ((c.tc : Thread Cert.MixFfnRefIdeal.nD Cert.MixFfnRefIdeal.τ).loc Cert.MixFfnRefIdeal.main_arg4) = m ((c.tc : Thread Cert.MixFfnRefIdeal.nD Cert.MixFfnRefIdeal.τ).loc Cert.MixFfnRefIdeal.main_arg4)
      ∧ r.2.mem ((c.tc : Thread Cert.MixFfnRefIdeal.nD Cert.MixFfnRefIdeal.τ).loc Cert.MixFfnRefIdeal.main_arg5) = m ((c.tc : Thread Cert.MixFfnRefIdeal.nD Cert.MixFfnRefIdeal.τ).loc Cert.MixFfnRefIdeal.main_arg5)
      ∧ r.2.mem ((c.tc : Thread Cert.MixFfnRefIdeal.nD Cert.MixFfnRefIdeal.τ).loc Cert.MixFfnRefIdeal.main_arg6) = m ((c.tc : Thread Cert.MixFfnRefIdeal.nD Cert.MixFfnRefIdeal.τ).loc Cert.MixFfnRefIdeal.main_arg6)
      ∧ r.2.mem ((c.tc : Thread Cert.MixFfnRefIdeal.nD Cert.MixFfnRefIdeal.τ).loc Cert.MixFfnRefIdeal.main_arg7) = m ((c.tc : Thread Cert.MixFfnRefIdeal.nD Cert.MixFfnRefIdeal.τ).loc Cert.MixFfnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OddInS5 [hOddInS5 : Cert.OddInS5.Facts] : Prop :=
  ∀ (m : (ℓ : Loc Cert.OddInS5.nD Cert.OddInS5.τ Cert.OddInS5.sig) → Buf (Elt Bits) ℓ) (g : Dev Cert.OddInS5.nD → PrngReg), Pre_OddInS5 m →
    θ_run (Cert.OddInS5.defs (F := Bits)) (onTc (τ := Cert.OddInS5.τ) (Cert.OddInS5.main (F := Bits))) ⟨m, fun _ => 0, g⟩ (fun r => (∀ c : Dev Cert.OddInS5.nD,
      r.2.mem ((c.tc : Thread Cert.OddInS5.nD Cert.OddInS5.τ).loc Cert.OddInS5.main_arg0) = m ((c.tc : Thread Cert.OddInS5.nD Cert.OddInS5.τ).loc Cert.OddInS5.main_arg0)
      ∧ r.2.mem ((c.tc : Thread Cert.OddInS5.nD Cert.OddInS5.τ).loc Cert.OddInS5.main_arg1) = m ((c.tc : Thread Cert.OddInS5.nD Cert.OddInS5.τ).loc Cert.OddInS5.main_arg1)
      ∧ r.2.mem ((c.tc : Thread Cert.OddInS5.nD Cert.OddInS5.τ).loc Cert.OddInS5.main_arg2) = m ((c.tc : Thread Cert.OddInS5.nD Cert.OddInS5.τ).loc Cert.OddInS5.main_arg2))
      ∧ r.2.sem = fun _ => 0)

def quiescent_OddInS5Ideal [hOddInS5Ideal : Cert.OddInS5Ideal.Facts] : Prop :=
  ∀ (m : (ℓ : Loc Cert.OddInS5Ideal.nD Cert.OddInS5Ideal.τ Cert.OddInS5Ideal.sig) → Buf (Elt Ideal) ℓ) (g : Dev Cert.OddInS5Ideal.nD → PrngReg), Pre_OddInS5Ideal m →
    θ_run (Cert.OddInS5Ideal.defs (F := Ideal)) (onTc (τ := Cert.OddInS5Ideal.τ) (Cert.OddInS5Ideal.main (F := Ideal))) ⟨m, fun _ => 0, g⟩ (fun r => (∀ c : Dev Cert.OddInS5Ideal.nD,
      r.2.mem ((c.tc : Thread Cert.OddInS5Ideal.nD Cert.OddInS5Ideal.τ).loc Cert.OddInS5Ideal.main_arg0) = m ((c.tc : Thread Cert.OddInS5Ideal.nD Cert.OddInS5Ideal.τ).loc Cert.OddInS5Ideal.main_arg0)
      ∧ r.2.mem ((c.tc : Thread Cert.OddInS5Ideal.nD Cert.OddInS5Ideal.τ).loc Cert.OddInS5Ideal.main_arg1) = m ((c.tc : Thread Cert.OddInS5Ideal.nD Cert.OddInS5Ideal.τ).loc Cert.OddInS5Ideal.main_arg1)
      ∧ r.2.mem ((c.tc : Thread Cert.OddInS5Ideal.nD Cert.OddInS5Ideal.τ).loc Cert.OddInS5Ideal.main_arg2) = m ((c.tc : Thread Cert.OddInS5Ideal.nD Cert.OddInS5Ideal.τ).loc Cert.OddInS5Ideal.main_arg2))
      ∧ r.2.sem = fun _ => 0)

def quiescent_OddInS5RefIdeal [hOddInS5RefIdeal : Cert.OddInS5RefIdeal.Facts] : Prop :=
  ∀ (m : (ℓ : Loc Cert.OddInS5RefIdeal.nD Cert.OddInS5RefIdeal.τ Cert.OddInS5RefIdeal.sig) → Buf (Elt Ideal) ℓ) (g : Dev Cert.OddInS5RefIdeal.nD → PrngReg), Pre_OddInS5RefIdeal m →
    θ_run (Cert.OddInS5RefIdeal.defs (F := Ideal)) (onTc (τ := Cert.OddInS5RefIdeal.τ) (Cert.OddInS5RefIdeal.main (F := Ideal))) ⟨m, fun _ => 0, g⟩ (fun r => (∀ c : Dev Cert.OddInS5RefIdeal.nD,
      r.2.mem ((c.tc : Thread Cert.OddInS5RefIdeal.nD Cert.OddInS5RefIdeal.τ).loc Cert.OddInS5RefIdeal.main_arg0) = m ((c.tc : Thread Cert.OddInS5RefIdeal.nD Cert.OddInS5RefIdeal.τ).loc Cert.OddInS5RefIdeal.main_arg0)
      ∧ r.2.mem ((c.tc : Thread Cert.OddInS5RefIdeal.nD Cert.OddInS5RefIdeal.τ).loc Cert.OddInS5RefIdeal.main_arg1) = m ((c.tc : Thread Cert.OddInS5RefIdeal.nD Cert.OddInS5RefIdeal.τ).loc Cert.OddInS5RefIdeal.main_arg1)
      ∧ r.2.mem ((c.tc : Thread Cert.OddInS5RefIdeal.nD Cert.OddInS5RefIdeal.τ).loc Cert.OddInS5RefIdeal.main_arg2) = m ((c.tc : Thread Cert.OddInS5RefIdeal.nD Cert.OddInS5RefIdeal.τ).loc Cert.OddInS5RefIdeal.main_arg2))
      ∧ r.2.sem = fun _ => 0)

def quiescent_OddInRw [hOddInRw : Cert.OddInRw.Facts] : Prop :=
  ∀ (m : (ℓ : Loc Cert.OddInRw.nD Cert.OddInRw.τ Cert.OddInRw.sig) → Buf (Elt Bits) ℓ) (g : Dev Cert.OddInRw.nD → PrngReg), Pre_OddInRw m →
    θ_run (Cert.OddInRw.defs (F := Bits)) (onTc (τ := Cert.OddInRw.τ) (Cert.OddInRw.main (F := Bits))) ⟨m, fun _ => 0, g⟩ (fun r => (∀ c : Dev Cert.OddInRw.nD,
      r.2.mem ((c.tc : Thread Cert.OddInRw.nD Cert.OddInRw.τ).loc Cert.OddInRw.main_arg0) = m ((c.tc : Thread Cert.OddInRw.nD Cert.OddInRw.τ).loc Cert.OddInRw.main_arg0)
      ∧ r.2.mem ((c.tc : Thread Cert.OddInRw.nD Cert.OddInRw.τ).loc Cert.OddInRw.main_arg1) = m ((c.tc : Thread Cert.OddInRw.nD Cert.OddInRw.τ).loc Cert.OddInRw.main_arg1)
      ∧ r.2.mem ((c.tc : Thread Cert.OddInRw.nD Cert.OddInRw.τ).loc Cert.OddInRw.main_arg2) = m ((c.tc : Thread Cert.OddInRw.nD Cert.OddInRw.τ).loc Cert.OddInRw.main_arg2))
      ∧ r.2.sem = fun _ => 0)

def quiescent_OddInRwIdeal [hOddInRwIdeal : Cert.OddInRwIdeal.Facts] : Prop :=
  ∀ (m : (ℓ : Loc Cert.OddInRwIdeal.nD Cert.OddInRwIdeal.τ Cert.OddInRwIdeal.sig) → Buf (Elt Ideal) ℓ) (g : Dev Cert.OddInRwIdeal.nD → PrngReg), Pre_OddInRwIdeal m →
    θ_run (Cert.OddInRwIdeal.defs (F := Ideal)) (onTc (τ := Cert.OddInRwIdeal.τ) (Cert.OddInRwIdeal.main (F := Ideal))) ⟨m, fun _ => 0, g⟩ (fun r => (∀ c : Dev Cert.OddInRwIdeal.nD,
      r.2.mem ((c.tc : Thread Cert.OddInRwIdeal.nD Cert.OddInRwIdeal.τ).loc Cert.OddInRwIdeal.main_arg0) = m ((c.tc : Thread Cert.OddInRwIdeal.nD Cert.OddInRwIdeal.τ).loc Cert.OddInRwIdeal.main_arg0)
      ∧ r.2.mem ((c.tc : Thread Cert.OddInRwIdeal.nD Cert.OddInRwIdeal.τ).loc Cert.OddInRwIdeal.main_arg1) = m ((c.tc : Thread Cert.OddInRwIdeal.nD Cert.OddInRwIdeal.τ).loc Cert.OddInRwIdeal.main_arg1)
      ∧ r.2.mem ((c.tc : Thread Cert.OddInRwIdeal.nD Cert.OddInRwIdeal.τ).loc Cert.OddInRwIdeal.main_arg2) = m ((c.tc : Thread Cert.OddInRwIdeal.nD Cert.OddInRwIdeal.τ).loc Cert.OddInRwIdeal.main_arg2))
      ∧ r.2.sem = fun _ => 0)

def quiescent_OddInRwRefIdeal [hOddInRwRefIdeal : Cert.OddInRwRefIdeal.Facts] : Prop :=
  ∀ (m : (ℓ : Loc Cert.OddInRwRefIdeal.nD Cert.OddInRwRefIdeal.τ Cert.OddInRwRefIdeal.sig) → Buf (Elt Ideal) ℓ) (g : Dev Cert.OddInRwRefIdeal.nD → PrngReg), Pre_OddInRwRefIdeal m →
    θ_run (Cert.OddInRwRefIdeal.defs (F := Ideal)) (onTc (τ := Cert.OddInRwRefIdeal.τ) (Cert.OddInRwRefIdeal.main (F := Ideal))) ⟨m, fun _ => 0, g⟩ (fun r => (∀ c : Dev Cert.OddInRwRefIdeal.nD,
      r.2.mem ((c.tc : Thread Cert.OddInRwRefIdeal.nD Cert.OddInRwRefIdeal.τ).loc Cert.OddInRwRefIdeal.main_arg0) = m ((c.tc : Thread Cert.OddInRwRefIdeal.nD Cert.OddInRwRefIdeal.τ).loc Cert.OddInRwRefIdeal.main_arg0)
      ∧ r.2.mem ((c.tc : Thread Cert.OddInRwRefIdeal.nD Cert.OddInRwRefIdeal.τ).loc Cert.OddInRwRefIdeal.main_arg1) = m ((c.tc : Thread Cert.OddInRwRefIdeal.nD Cert.OddInRwRefIdeal.τ).loc Cert.OddInRwRefIdeal.main_arg1)
      ∧ r.2.mem ((c.tc : Thread Cert.OddInRwRefIdeal.nD Cert.OddInRwRefIdeal.τ).loc Cert.OddInRwRefIdeal.main_arg2) = m ((c.tc : Thread Cert.OddInRwRefIdeal.nD Cert.OddInRwRefIdeal.τ).loc Cert.OddInRwRefIdeal.main_arg2))
      ∧ r.2.sem = fun _ => 0)

def quiescent_S5Post [hS5Post : Cert.S5Post.Facts] : Prop :=
  ∀ (m : (ℓ : Loc Cert.S5Post.nD Cert.S5Post.τ Cert.S5Post.sig) → Buf (Elt Bits) ℓ) (g : Dev Cert.S5Post.nD → PrngReg), Pre_S5Post m →
    θ_run (Cert.S5Post.defs (F := Bits)) (onTc (τ := Cert.S5Post.τ) (Cert.S5Post.main (F := Bits))) ⟨m, fun _ => 0, g⟩ (fun r => (∀ c : Dev Cert.S5Post.nD,
      r.2.mem ((c.tc : Thread Cert.S5Post.nD Cert.S5Post.τ).loc Cert.S5Post.main_arg0) = m ((c.tc : Thread Cert.S5Post.nD Cert.S5Post.τ).loc Cert.S5Post.main_arg0)
      ∧ r.2.mem ((c.tc : Thread Cert.S5Post.nD Cert.S5Post.τ).loc Cert.S5Post.main_arg1) = m ((c.tc : Thread Cert.S5Post.nD Cert.S5Post.τ).loc Cert.S5Post.main_arg1)
      ∧ r.2.mem ((c.tc : Thread Cert.S5Post.nD Cert.S5Post.τ).loc Cert.S5Post.main_arg2) = m ((c.tc : Thread Cert.S5Post.nD Cert.S5Post.τ).loc Cert.S5Post.main_arg2)
      ∧ r.2.mem ((c.tc : Thread Cert.S5Post.nD Cert.S5Post.τ).loc Cert.S5Post.main_arg3) = m ((c.tc : Thread Cert.S5Post.nD Cert.S5Post.τ).loc Cert.S5Post.main_arg3)
      ∧ r.2.mem ((c.tc : Thread Cert.S5Post.nD Cert.S5Post.τ).loc Cert.S5Post.main_arg4) = m ((c.tc : Thread Cert.S5Post.nD Cert.S5Post.τ).loc Cert.S5Post.main_arg4))
      ∧ r.2.sem = fun _ => 0)

def quiescent_S5PostIdeal [hS5PostIdeal : Cert.S5PostIdeal.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
      ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ r.2.sem = fun _ => 0)

def quiescent_S5PostRefIdeal [hS5PostRefIdeal : Cert.S5PostRefIdeal.Facts] : Prop :=
  ∀ (m : (ℓ : Loc Cert.S5PostRefIdeal.nD Cert.S5PostRefIdeal.τ Cert.S5PostRefIdeal.sig) → Buf (Elt Ideal) ℓ) (g : Dev Cert.S5PostRefIdeal.nD → PrngReg), Pre_S5PostRefIdeal m →
    θ_run (Cert.S5PostRefIdeal.defs (F := Ideal)) (onTc (τ := Cert.S5PostRefIdeal.τ) (Cert.S5PostRefIdeal.main (F := Ideal))) ⟨m, fun _ => 0, g⟩ (fun r => (∀ c : Dev Cert.S5PostRefIdeal.nD,
      r.2.mem ((c.tc : Thread Cert.S5PostRefIdeal.nD Cert.S5PostRefIdeal.τ).loc Cert.S5PostRefIdeal.main_arg0) = m ((c.tc : Thread Cert.S5PostRefIdeal.nD Cert.S5PostRefIdeal.τ).loc Cert.S5PostRefIdeal.main_arg0)
      ∧ r.2.mem ((c.tc : Thread Cert.S5PostRefIdeal.nD Cert.S5PostRefIdeal.τ).loc Cert.S5PostRefIdeal.main_arg1) = m ((c.tc : Thread Cert.S5PostRefIdeal.nD Cert.S5PostRefIdeal.τ).loc Cert.S5PostRefIdeal.main_arg1)
      ∧ r.2.mem ((c.tc : Thread Cert.S5PostRefIdeal.nD Cert.S5PostRefIdeal.τ).loc Cert.S5PostRefIdeal.main_arg2) = m ((c.tc : Thread Cert.S5PostRefIdeal.nD Cert.S5PostRefIdeal.τ).loc Cert.S5PostRefIdeal.main_arg2)
      ∧ r.2.mem ((c.tc : Thread Cert.S5PostRefIdeal.nD Cert.S5PostRefIdeal.τ).loc Cert.S5PostRefIdeal.main_arg3) = m ((c.tc : Thread Cert.S5PostRefIdeal.nD Cert.S5PostRefIdeal.τ).loc Cert.S5PostRefIdeal.main_arg3)
      ∧ r.2.mem ((c.tc : Thread Cert.S5PostRefIdeal.nD Cert.S5PostRefIdeal.τ).loc Cert.S5PostRefIdeal.main_arg4) = m ((c.tc : Thread Cert.S5PostRefIdeal.nD Cert.S5PostRefIdeal.τ).loc Cert.S5PostRefIdeal.main_arg4))
      ∧ r.2.sem = fun _ => 0)

def quiescent_S5Disc [hS5Disc : Cert.S5Disc.Facts] : Prop :=
  ∀ (m : (ℓ : Loc Cert.S5Disc.nD Cert.S5Disc.τ Cert.S5Disc.sig) → Buf (Elt Bits) ℓ) (g : Dev Cert.S5Disc.nD → PrngReg), Pre_S5Disc m →
    θ_run (Cert.S5Disc.defs (F := Bits)) (onTc (τ := Cert.S5Disc.τ) (Cert.S5Disc.main (F := Bits))) ⟨m, fun _ => 0, g⟩ (fun r => (∀ c : Dev Cert.S5Disc.nD,
      r.2.mem ((c.tc : Thread Cert.S5Disc.nD Cert.S5Disc.τ).loc Cert.S5Disc.main_arg0) = m ((c.tc : Thread Cert.S5Disc.nD Cert.S5Disc.τ).loc Cert.S5Disc.main_arg0)
      ∧ r.2.mem ((c.tc : Thread Cert.S5Disc.nD Cert.S5Disc.τ).loc Cert.S5Disc.main_arg1) = m ((c.tc : Thread Cert.S5Disc.nD Cert.S5Disc.τ).loc Cert.S5Disc.main_arg1)
      ∧ r.2.mem ((c.tc : Thread Cert.S5Disc.nD Cert.S5Disc.τ).loc Cert.S5Disc.main_arg2) = m ((c.tc : Thread Cert.S5Disc.nD Cert.S5Disc.τ).loc Cert.S5Disc.main_arg2))
      ∧ r.2.sem = fun _ => 0)

def quiescent_S5DiscIdeal [hS5DiscIdeal : Cert.S5DiscIdeal.Facts] : Prop :=
  ∀ (m : (ℓ : Loc Cert.S5DiscIdeal.nD Cert.S5DiscIdeal.τ Cert.S5DiscIdeal.sig) → Buf (Elt Ideal) ℓ) (g : Dev Cert.S5DiscIdeal.nD → PrngReg), Pre_S5DiscIdeal m →
    θ_run (Cert.S5DiscIdeal.defs (F := Ideal)) (onTc (τ := Cert.S5DiscIdeal.τ) (Cert.S5DiscIdeal.main (F := Ideal))) ⟨m, fun _ => 0, g⟩ (fun r => (∀ c : Dev Cert.S5DiscIdeal.nD,
      r.2.mem ((c.tc : Thread Cert.S5DiscIdeal.nD Cert.S5DiscIdeal.τ).loc Cert.S5DiscIdeal.main_arg0) = m ((c.tc : Thread Cert.S5DiscIdeal.nD Cert.S5DiscIdeal.τ).loc Cert.S5DiscIdeal.main_arg0)
      ∧ r.2.mem ((c.tc : Thread Cert.S5DiscIdeal.nD Cert.S5DiscIdeal.τ).loc Cert.S5DiscIdeal.main_arg1) = m ((c.tc : Thread Cert.S5DiscIdeal.nD Cert.S5DiscIdeal.τ).loc Cert.S5DiscIdeal.main_arg1)
      ∧ r.2.mem ((c.tc : Thread Cert.S5DiscIdeal.nD Cert.S5DiscIdeal.τ).loc Cert.S5DiscIdeal.main_arg2) = m ((c.tc : Thread Cert.S5DiscIdeal.nD Cert.S5DiscIdeal.τ).loc Cert.S5DiscIdeal.main_arg2))
      ∧ r.2.sem = fun _ => 0)

def quiescent_S5DiscRefIdeal [hS5DiscRefIdeal : Cert.S5DiscRefIdeal.Facts] : Prop :=
  ∀ (m : (ℓ : Loc Cert.S5DiscRefIdeal.nD Cert.S5DiscRefIdeal.τ Cert.S5DiscRefIdeal.sig) → Buf (Elt Ideal) ℓ) (g : Dev Cert.S5DiscRefIdeal.nD → PrngReg), Pre_S5DiscRefIdeal m →
    θ_run (Cert.S5DiscRefIdeal.defs (F := Ideal)) (onTc (τ := Cert.S5DiscRefIdeal.τ) (Cert.S5DiscRefIdeal.main (F := Ideal))) ⟨m, fun _ => 0, g⟩ (fun r => (∀ c : Dev Cert.S5DiscRefIdeal.nD,
      r.2.mem ((c.tc : Thread Cert.S5DiscRefIdeal.nD Cert.S5DiscRefIdeal.τ).loc Cert.S5DiscRefIdeal.main_arg0) = m ((c.tc : Thread Cert.S5DiscRefIdeal.nD Cert.S5DiscRefIdeal.τ).loc Cert.S5DiscRefIdeal.main_arg0)
      ∧ r.2.mem ((c.tc : Thread Cert.S5DiscRefIdeal.nD Cert.S5DiscRefIdeal.τ).loc Cert.S5DiscRefIdeal.main_arg1) = m ((c.tc : Thread Cert.S5DiscRefIdeal.nD Cert.S5DiscRefIdeal.τ).loc Cert.S5DiscRefIdeal.main_arg1)
      ∧ r.2.mem ((c.tc : Thread Cert.S5DiscRefIdeal.nD Cert.S5DiscRefIdeal.τ).loc Cert.S5DiscRefIdeal.main_arg2) = m ((c.tc : Thread Cert.S5DiscRefIdeal.nD Cert.S5DiscRefIdeal.τ).loc Cert.S5DiscRefIdeal.main_arg2))
      ∧ r.2.sem = fun _ => 0)

def quiescent_AttnPrep [hAttnPrep : Cert.AttnPrep.Facts] : Prop :=
  ∀ (m : (ℓ : Loc Cert.AttnPrep.nD Cert.AttnPrep.τ Cert.AttnPrep.sig) → Buf (Elt Bits) ℓ) (g : Dev Cert.AttnPrep.nD → PrngReg), Pre_AttnPrep m →
    θ_run (Cert.AttnPrep.defs (F := Bits)) (onTc (τ := Cert.AttnPrep.τ) (Cert.AttnPrep.main (F := Bits))) ⟨m, fun _ => 0, g⟩ (fun r => (∀ c : Dev Cert.AttnPrep.nD,
      r.2.mem ((c.tc : Thread Cert.AttnPrep.nD Cert.AttnPrep.τ).loc Cert.AttnPrep.main_arg0) = m ((c.tc : Thread Cert.AttnPrep.nD Cert.AttnPrep.τ).loc Cert.AttnPrep.main_arg0))
      ∧ r.2.sem = fun _ => 0)

def quiescent_AttnPrepIdeal [hAttnPrepIdeal : Cert.AttnPrepIdeal.Facts] : Prop :=
  ∀ (m : (ℓ : Loc Cert.AttnPrepIdeal.nD Cert.AttnPrepIdeal.τ Cert.AttnPrepIdeal.sig) → Buf (Elt Ideal) ℓ) (g : Dev Cert.AttnPrepIdeal.nD → PrngReg), Pre_AttnPrepIdeal m →
    θ_run (Cert.AttnPrepIdeal.defs (F := Ideal)) (onTc (τ := Cert.AttnPrepIdeal.τ) (Cert.AttnPrepIdeal.main (F := Ideal))) ⟨m, fun _ => 0, g⟩ (fun r => (∀ c : Dev Cert.AttnPrepIdeal.nD,
      r.2.mem ((c.tc : Thread Cert.AttnPrepIdeal.nD Cert.AttnPrepIdeal.τ).loc Cert.AttnPrepIdeal.main_arg0) = m ((c.tc : Thread Cert.AttnPrepIdeal.nD Cert.AttnPrepIdeal.τ).loc Cert.AttnPrepIdeal.main_arg0))
      ∧ r.2.sem = fun _ => 0)

def quiescent_AttnPrepRefIdeal [hAttnPrepRefIdeal : Cert.AttnPrepRefIdeal.Facts] : Prop :=
  ∀ (m : (ℓ : Loc Cert.AttnPrepRefIdeal.nD Cert.AttnPrepRefIdeal.τ Cert.AttnPrepRefIdeal.sig) → Buf (Elt Ideal) ℓ) (g : Dev Cert.AttnPrepRefIdeal.nD → PrngReg), Pre_AttnPrepRefIdeal m →
    θ_run (Cert.AttnPrepRefIdeal.defs (F := Ideal)) (onTc (τ := Cert.AttnPrepRefIdeal.τ) (Cert.AttnPrepRefIdeal.main (F := Ideal))) ⟨m, fun _ => 0, g⟩ (fun r => (∀ c : Dev Cert.AttnPrepRefIdeal.nD,
      r.2.mem ((c.tc : Thread Cert.AttnPrepRefIdeal.nD Cert.AttnPrepRefIdeal.τ).loc Cert.AttnPrepRefIdeal.main_arg0) = m ((c.tc : Thread Cert.AttnPrepRefIdeal.nD Cert.AttnPrepRefIdeal.τ).loc Cert.AttnPrepRefIdeal.main_arg0))
      ∧ r.2.sem = fun _ => 0)

def quiescent_DiffAttn [hDiffAttn : Cert.DiffAttn.Facts] : Prop :=
  ∀ (m : (ℓ : Loc Cert.DiffAttn.nD Cert.DiffAttn.τ Cert.DiffAttn.sig) → Buf (Elt Bits) ℓ) (g : Dev Cert.DiffAttn.nD → PrngReg), Pre_DiffAttn m →
    θ_run (Cert.DiffAttn.defs (F := Bits)) (onTc (τ := Cert.DiffAttn.τ) (Cert.DiffAttn.main (F := Bits))) ⟨m, fun _ => 0, g⟩ (fun r => (∀ c : Dev Cert.DiffAttn.nD,
      r.2.mem ((c.tc : Thread Cert.DiffAttn.nD Cert.DiffAttn.τ).loc Cert.DiffAttn.main_arg0) = m ((c.tc : Thread Cert.DiffAttn.nD Cert.DiffAttn.τ).loc Cert.DiffAttn.main_arg0)
      ∧ r.2.mem ((c.tc : Thread Cert.DiffAttn.nD Cert.DiffAttn.τ).loc Cert.DiffAttn.main_arg1) = m ((c.tc : Thread Cert.DiffAttn.nD Cert.DiffAttn.τ).loc Cert.DiffAttn.main_arg1)
      ∧ r.2.mem ((c.tc : Thread Cert.DiffAttn.nD Cert.DiffAttn.τ).loc Cert.DiffAttn.main_arg2) = m ((c.tc : Thread Cert.DiffAttn.nD Cert.DiffAttn.τ).loc Cert.DiffAttn.main_arg2)
      ∧ r.2.mem ((c.tc : Thread Cert.DiffAttn.nD Cert.DiffAttn.τ).loc Cert.DiffAttn.main_arg3) = m ((c.tc : Thread Cert.DiffAttn.nD Cert.DiffAttn.τ).loc Cert.DiffAttn.main_arg3)
      ∧ r.2.mem ((c.tc : Thread Cert.DiffAttn.nD Cert.DiffAttn.τ).loc Cert.DiffAttn.main_arg4) = m ((c.tc : Thread Cert.DiffAttn.nD Cert.DiffAttn.τ).loc Cert.DiffAttn.main_arg4)
      ∧ r.2.mem ((c.tc : Thread Cert.DiffAttn.nD Cert.DiffAttn.τ).loc Cert.DiffAttn.main_arg5) = m ((c.tc : Thread Cert.DiffAttn.nD Cert.DiffAttn.τ).loc Cert.DiffAttn.main_arg5)
      ∧ r.2.mem ((c.tc : Thread Cert.DiffAttn.nD Cert.DiffAttn.τ).loc Cert.DiffAttn.main_arg6) = m ((c.tc : Thread Cert.DiffAttn.nD Cert.DiffAttn.τ).loc Cert.DiffAttn.main_arg6)
      ∧ r.2.mem ((c.tc : Thread Cert.DiffAttn.nD Cert.DiffAttn.τ).loc Cert.DiffAttn.main_arg7) = m ((c.tc : Thread Cert.DiffAttn.nD Cert.DiffAttn.τ).loc Cert.DiffAttn.main_arg7))
      ∧ r.2.sem = fun _ => 0)

def quiescent_DiffAttnIdeal [hDiffAttnIdeal : Cert.DiffAttnIdeal.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
      ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7))
      ∧ r.2.sem = fun _ => 0)

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v5)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v5) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_MixFfn_MixFfnIdeal : Prop :=
  True

def algebraic_MixFfnIdeal_MixFfnRefIdeal [hMixFfnIdeal : Cert.MixFfnIdeal.Facts] [hMixFfnRefIdeal : Cert.MixFfnRefIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg)
    (m' : (ℓ : Loc Cert.MixFfnRefIdeal.nD Cert.MixFfnRefIdeal.τ Cert.MixFfnRefIdeal.sig) → Buf (Elt Ideal) ℓ) (g' : Dev Cert.MixFfnRefIdeal.nD → PrngReg), Pre_MixFfnIdeal m →
    (∀ c : Dev Cert.MixFfnIdeal.nD,
      m' ((c.tc : Thread Cert.MixFfnRefIdeal.nD Cert.MixFfnRefIdeal.τ).loc Cert.MixFfnRefIdeal.main_arg0) = m ((c.tc : Thread Cert.MixFfnIdeal.nD Cert.MixFfnIdeal.τ).loc Cert.MixFfnIdeal.main_arg0)
      ∧ m' ((c.tc : Thread Cert.MixFfnRefIdeal.nD Cert.MixFfnRefIdeal.τ).loc Cert.MixFfnRefIdeal.main_arg1) = m ((c.tc : Thread Cert.MixFfnIdeal.nD Cert.MixFfnIdeal.τ).loc Cert.MixFfnIdeal.main_arg1)
      ∧ m' ((c.tc : Thread Cert.MixFfnRefIdeal.nD Cert.MixFfnRefIdeal.τ).loc Cert.MixFfnRefIdeal.main_arg2) = m ((c.tc : Thread Cert.MixFfnIdeal.nD Cert.MixFfnIdeal.τ).loc Cert.MixFfnIdeal.main_arg2)
      ∧ m' ((c.tc : Thread Cert.MixFfnRefIdeal.nD Cert.MixFfnRefIdeal.τ).loc Cert.MixFfnRefIdeal.main_arg3) = m ((c.tc : Thread Cert.MixFfnIdeal.nD Cert.MixFfnIdeal.τ).loc Cert.MixFfnIdeal.main_arg3)
      ∧ m' ((c.tc : Thread Cert.MixFfnRefIdeal.nD Cert.MixFfnRefIdeal.τ).loc Cert.MixFfnRefIdeal.main_arg4) = m ((c.tc : Thread Cert.MixFfnIdeal.nD Cert.MixFfnIdeal.τ).loc Cert.MixFfnIdeal.main_arg4)
      ∧ m' ((c.tc : Thread Cert.MixFfnRefIdeal.nD Cert.MixFfnRefIdeal.τ).loc Cert.MixFfnRefIdeal.main_arg5) = m ((c.tc : Thread Cert.MixFfnIdeal.nD Cert.MixFfnIdeal.τ).loc Cert.MixFfnIdeal.main_arg5)
      ∧ m' ((c.tc : Thread Cert.MixFfnRefIdeal.nD Cert.MixFfnRefIdeal.τ).loc Cert.MixFfnRefIdeal.main_arg6) = m ((c.tc : Thread Cert.MixFfnIdeal.nD Cert.MixFfnIdeal.τ).loc Cert.MixFfnIdeal.main_arg6)
      ∧ m' ((c.tc : Thread Cert.MixFfnRefIdeal.nD Cert.MixFfnRefIdeal.τ).loc Cert.MixFfnRefIdeal.main_arg7) = m ((c.tc : Thread Cert.MixFfnIdeal.nD Cert.MixFfnIdeal.τ).loc Cert.MixFfnIdeal.main_arg7)) →
    ∃ (v0 : (c : Dev Cert.MixFfnIdeal.nD) → Buf (Elt Ideal) ((c.tc : Thread Cert.MixFfnIdeal.nD Cert.MixFfnIdeal.τ).loc Cert.MixFfnIdeal.main_v20)),
      θ_run (Cert.MixFfnIdeal.defs (F := Ideal)) (onTc (τ := Cert.MixFfnIdeal.τ) (Cert.MixFfnIdeal.main (F := Ideal))) ⟨m, fun _ => 0, g⟩ (fun r => ∀ c : Dev Cert.MixFfnIdeal.nD,
          r.2.mem ((c.tc : Thread Cert.MixFfnIdeal.nD Cert.MixFfnIdeal.τ).loc Cert.MixFfnIdeal.main_v20) = v0 c
          ∧ r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
          ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
          ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
          ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
          ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
          ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
          ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
          ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7))
      ∧ θ_run (Cert.MixFfnRefIdeal.defs (F := Ideal)) (onTc (τ := Cert.MixFfnRefIdeal.τ) (Cert.MixFfnRefIdeal.main (F := Ideal))) ⟨m', fun _ => 0, g'⟩ (fun r => ∀ c : Dev Cert.MixFfnRefIdeal.nD,
          r.2.mem ((c.tc : Thread Cert.MixFfnRefIdeal.nD Cert.MixFfnRefIdeal.τ).loc Cert.MixFfnRefIdeal.main_v31) = v0 c
          ∧ r.2.mem ((c.tc : Thread Cert.MixFfnRefIdeal.nD Cert.MixFfnRefIdeal.τ).loc Cert.MixFfnRefIdeal.main_arg0) = m' ((c.tc : Thread Cert.MixFfnRefIdeal.nD Cert.MixFfnRefIdeal.τ).loc Cert.MixFfnRefIdeal.main_arg0)
          ∧ r.2.mem ((c.tc : Thread Cert.MixFfnRefIdeal.nD Cert.MixFfnRefIdeal.τ).loc Cert.MixFfnRefIdeal.main_arg1) = m' ((c.tc : Thread Cert.MixFfnRefIdeal.nD Cert.MixFfnRefIdeal.τ).loc Cert.MixFfnRefIdeal.main_arg1)
          ∧ r.2.mem ((c.tc : Thread Cert.MixFfnRefIdeal.nD Cert.MixFfnRefIdeal.τ).loc Cert.MixFfnRefIdeal.main_arg2) = m' ((c.tc : Thread Cert.MixFfnRefIdeal.nD Cert.MixFfnRefIdeal.τ).loc Cert.MixFfnRefIdeal.main_arg2)
          ∧ r.2.mem ((c.tc : Thread Cert.MixFfnRefIdeal.nD Cert.MixFfnRefIdeal.τ).loc Cert.MixFfnRefIdeal.main_arg3) = m' ((c.tc : Thread Cert.MixFfnRefIdeal.nD Cert.MixFfnRefIdeal.τ).loc Cert.MixFfnRefIdeal.main_arg3)
          ∧ r.2.mem ((c.tc : Thread Cert.MixFfnRefIdeal.nD Cert.MixFfnRefIdeal.τ).loc Cert.MixFfnRefIdeal.main_arg4) = m' ((c.tc : Thread Cert.MixFfnRefIdeal.nD Cert.MixFfnRefIdeal.τ).loc Cert.MixFfnRefIdeal.main_arg4)
          ∧ r.2.mem ((c.tc : Thread Cert.MixFfnRefIdeal.nD Cert.MixFfnRefIdeal.τ).loc Cert.MixFfnRefIdeal.main_arg5) = m' ((c.tc : Thread Cert.MixFfnRefIdeal.nD Cert.MixFfnRefIdeal.τ).loc Cert.MixFfnRefIdeal.main_arg5)
          ∧ r.2.mem ((c.tc : Thread Cert.MixFfnRefIdeal.nD Cert.MixFfnRefIdeal.τ).loc Cert.MixFfnRefIdeal.main_arg6) = m' ((c.tc : Thread Cert.MixFfnRefIdeal.nD Cert.MixFfnRefIdeal.τ).loc Cert.MixFfnRefIdeal.main_arg6)
          ∧ r.2.mem ((c.tc : Thread Cert.MixFfnRefIdeal.nD Cert.MixFfnRefIdeal.τ).loc Cert.MixFfnRefIdeal.main_arg7) = m' ((c.tc : Thread Cert.MixFfnRefIdeal.nD Cert.MixFfnRefIdeal.τ).loc Cert.MixFfnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OddInS5_OddInS5Ideal : Prop :=
  True

def algebraic_OddInS5Ideal_OddInS5RefIdeal [hOddInS5Ideal : Cert.OddInS5Ideal.Facts] [hOddInS5RefIdeal : Cert.OddInS5RefIdeal.Facts] : Prop :=
  ∀ (m : (ℓ : Loc Cert.OddInS5Ideal.nD Cert.OddInS5Ideal.τ Cert.OddInS5Ideal.sig) → Buf (Elt Ideal) ℓ) (g : Dev Cert.OddInS5Ideal.nD → PrngReg)
    (m' : (ℓ : Loc Cert.OddInS5RefIdeal.nD Cert.OddInS5RefIdeal.τ Cert.OddInS5RefIdeal.sig) → Buf (Elt Ideal) ℓ) (g' : Dev Cert.OddInS5RefIdeal.nD → PrngReg), Pre_OddInS5Ideal m →
    (∀ c : Dev Cert.OddInS5Ideal.nD,
      m' ((c.tc : Thread Cert.OddInS5RefIdeal.nD Cert.OddInS5RefIdeal.τ).loc Cert.OddInS5RefIdeal.main_arg0) = m ((c.tc : Thread Cert.OddInS5Ideal.nD Cert.OddInS5Ideal.τ).loc Cert.OddInS5Ideal.main_arg0)
      ∧ m' ((c.tc : Thread Cert.OddInS5RefIdeal.nD Cert.OddInS5RefIdeal.τ).loc Cert.OddInS5RefIdeal.main_arg1) = m ((c.tc : Thread Cert.OddInS5Ideal.nD Cert.OddInS5Ideal.τ).loc Cert.OddInS5Ideal.main_arg1)
      ∧ m' ((c.tc : Thread Cert.OddInS5RefIdeal.nD Cert.OddInS5RefIdeal.τ).loc Cert.OddInS5RefIdeal.main_arg2) = m ((c.tc : Thread Cert.OddInS5Ideal.nD Cert.OddInS5Ideal.τ).loc Cert.OddInS5Ideal.main_arg2)) →
    ∃ (v0 : (c : Dev Cert.OddInS5Ideal.nD) → Buf (Elt Ideal) ((c.tc : Thread Cert.OddInS5Ideal.nD Cert.OddInS5Ideal.τ).loc Cert.OddInS5Ideal.main_v19)),
      θ_run (Cert.OddInS5Ideal.defs (F := Ideal)) (onTc (τ := Cert.OddInS5Ideal.τ) (Cert.OddInS5Ideal.main (F := Ideal))) ⟨m, fun _ => 0, g⟩ (fun r => ∀ c : Dev Cert.OddInS5Ideal.nD,
          r.2.mem ((c.tc : Thread Cert.OddInS5Ideal.nD Cert.OddInS5Ideal.τ).loc Cert.OddInS5Ideal.main_v19) = v0 c
          ∧ r.2.mem ((c.tc : Thread Cert.OddInS5Ideal.nD Cert.OddInS5Ideal.τ).loc Cert.OddInS5Ideal.main_arg0) = m ((c.tc : Thread Cert.OddInS5Ideal.nD Cert.OddInS5Ideal.τ).loc Cert.OddInS5Ideal.main_arg0)
          ∧ r.2.mem ((c.tc : Thread Cert.OddInS5Ideal.nD Cert.OddInS5Ideal.τ).loc Cert.OddInS5Ideal.main_arg1) = m ((c.tc : Thread Cert.OddInS5Ideal.nD Cert.OddInS5Ideal.τ).loc Cert.OddInS5Ideal.main_arg1)
          ∧ r.2.mem ((c.tc : Thread Cert.OddInS5Ideal.nD Cert.OddInS5Ideal.τ).loc Cert.OddInS5Ideal.main_arg2) = m ((c.tc : Thread Cert.OddInS5Ideal.nD Cert.OddInS5Ideal.τ).loc Cert.OddInS5Ideal.main_arg2))
      ∧ θ_run (Cert.OddInS5RefIdeal.defs (F := Ideal)) (onTc (τ := Cert.OddInS5RefIdeal.τ) (Cert.OddInS5RefIdeal.main (F := Ideal))) ⟨m', fun _ => 0, g'⟩ (fun r => ∀ c : Dev Cert.OddInS5RefIdeal.nD,
          r.2.mem ((c.tc : Thread Cert.OddInS5RefIdeal.nD Cert.OddInS5RefIdeal.τ).loc Cert.OddInS5RefIdeal.main_v18) = v0 c
          ∧ r.2.mem ((c.tc : Thread Cert.OddInS5RefIdeal.nD Cert.OddInS5RefIdeal.τ).loc Cert.OddInS5RefIdeal.main_arg0) = m' ((c.tc : Thread Cert.OddInS5RefIdeal.nD Cert.OddInS5RefIdeal.τ).loc Cert.OddInS5RefIdeal.main_arg0)
          ∧ r.2.mem ((c.tc : Thread Cert.OddInS5RefIdeal.nD Cert.OddInS5RefIdeal.τ).loc Cert.OddInS5RefIdeal.main_arg1) = m' ((c.tc : Thread Cert.OddInS5RefIdeal.nD Cert.OddInS5RefIdeal.τ).loc Cert.OddInS5RefIdeal.main_arg1)
          ∧ r.2.mem ((c.tc : Thread Cert.OddInS5RefIdeal.nD Cert.OddInS5RefIdeal.τ).loc Cert.OddInS5RefIdeal.main_arg2) = m' ((c.tc : Thread Cert.OddInS5RefIdeal.nD Cert.OddInS5RefIdeal.τ).loc Cert.OddInS5RefIdeal.main_arg2))

def preserves_OddInRw_OddInRwIdeal : Prop :=
  True

def algebraic_OddInRwIdeal_OddInRwRefIdeal [hOddInRwIdeal : Cert.OddInRwIdeal.Facts] [hOddInRwRefIdeal : Cert.OddInRwRefIdeal.Facts] : Prop :=
  ∀ (m : (ℓ : Loc Cert.OddInRwIdeal.nD Cert.OddInRwIdeal.τ Cert.OddInRwIdeal.sig) → Buf (Elt Ideal) ℓ) (g : Dev Cert.OddInRwIdeal.nD → PrngReg)
    (m' : (ℓ : Loc Cert.OddInRwRefIdeal.nD Cert.OddInRwRefIdeal.τ Cert.OddInRwRefIdeal.sig) → Buf (Elt Ideal) ℓ) (g' : Dev Cert.OddInRwRefIdeal.nD → PrngReg), Pre_OddInRwIdeal m →
    (∀ c : Dev Cert.OddInRwIdeal.nD,
      m' ((c.tc : Thread Cert.OddInRwRefIdeal.nD Cert.OddInRwRefIdeal.τ).loc Cert.OddInRwRefIdeal.main_arg0) = m ((c.tc : Thread Cert.OddInRwIdeal.nD Cert.OddInRwIdeal.τ).loc Cert.OddInRwIdeal.main_arg0)
      ∧ m' ((c.tc : Thread Cert.OddInRwRefIdeal.nD Cert.OddInRwRefIdeal.τ).loc Cert.OddInRwRefIdeal.main_arg1) = m ((c.tc : Thread Cert.OddInRwIdeal.nD Cert.OddInRwIdeal.τ).loc Cert.OddInRwIdeal.main_arg1)
      ∧ m' ((c.tc : Thread Cert.OddInRwRefIdeal.nD Cert.OddInRwRefIdeal.τ).loc Cert.OddInRwRefIdeal.main_arg2) = m ((c.tc : Thread Cert.OddInRwIdeal.nD Cert.OddInRwIdeal.τ).loc Cert.OddInRwIdeal.main_arg2)) →
    ∃ (v0 : (c : Dev Cert.OddInRwIdeal.nD) → Buf (Elt Ideal) ((c.tc : Thread Cert.OddInRwIdeal.nD Cert.OddInRwIdeal.τ).loc Cert.OddInRwIdeal.main_v23)),
      θ_run (Cert.OddInRwIdeal.defs (F := Ideal)) (onTc (τ := Cert.OddInRwIdeal.τ) (Cert.OddInRwIdeal.main (F := Ideal))) ⟨m, fun _ => 0, g⟩ (fun r => ∀ c : Dev Cert.OddInRwIdeal.nD,
          r.2.mem ((c.tc : Thread Cert.OddInRwIdeal.nD Cert.OddInRwIdeal.τ).loc Cert.OddInRwIdeal.main_v23) = v0 c
          ∧ r.2.mem ((c.tc : Thread Cert.OddInRwIdeal.nD Cert.OddInRwIdeal.τ).loc Cert.OddInRwIdeal.main_arg0) = m ((c.tc : Thread Cert.OddInRwIdeal.nD Cert.OddInRwIdeal.τ).loc Cert.OddInRwIdeal.main_arg0)
          ∧ r.2.mem ((c.tc : Thread Cert.OddInRwIdeal.nD Cert.OddInRwIdeal.τ).loc Cert.OddInRwIdeal.main_arg1) = m ((c.tc : Thread Cert.OddInRwIdeal.nD Cert.OddInRwIdeal.τ).loc Cert.OddInRwIdeal.main_arg1)
          ∧ r.2.mem ((c.tc : Thread Cert.OddInRwIdeal.nD Cert.OddInRwIdeal.τ).loc Cert.OddInRwIdeal.main_arg2) = m ((c.tc : Thread Cert.OddInRwIdeal.nD Cert.OddInRwIdeal.τ).loc Cert.OddInRwIdeal.main_arg2))
      ∧ θ_run (Cert.OddInRwRefIdeal.defs (F := Ideal)) (onTc (τ := Cert.OddInRwRefIdeal.τ) (Cert.OddInRwRefIdeal.main (F := Ideal))) ⟨m', fun _ => 0, g'⟩ (fun r => ∀ c : Dev Cert.OddInRwRefIdeal.nD,
          r.2.mem ((c.tc : Thread Cert.OddInRwRefIdeal.nD Cert.OddInRwRefIdeal.τ).loc Cert.OddInRwRefIdeal.main_v18) = v0 c
          ∧ r.2.mem ((c.tc : Thread Cert.OddInRwRefIdeal.nD Cert.OddInRwRefIdeal.τ).loc Cert.OddInRwRefIdeal.main_arg0) = m' ((c.tc : Thread Cert.OddInRwRefIdeal.nD Cert.OddInRwRefIdeal.τ).loc Cert.OddInRwRefIdeal.main_arg0)
          ∧ r.2.mem ((c.tc : Thread Cert.OddInRwRefIdeal.nD Cert.OddInRwRefIdeal.τ).loc Cert.OddInRwRefIdeal.main_arg1) = m' ((c.tc : Thread Cert.OddInRwRefIdeal.nD Cert.OddInRwRefIdeal.τ).loc Cert.OddInRwRefIdeal.main_arg1)
          ∧ r.2.mem ((c.tc : Thread Cert.OddInRwRefIdeal.nD Cert.OddInRwRefIdeal.τ).loc Cert.OddInRwRefIdeal.main_arg2) = m' ((c.tc : Thread Cert.OddInRwRefIdeal.nD Cert.OddInRwRefIdeal.τ).loc Cert.OddInRwRefIdeal.main_arg2))

def preserves_S5Post_S5PostIdeal : Prop :=
  True

def algebraic_S5PostIdeal_S5PostRefIdeal [hS5PostIdeal : Cert.S5PostIdeal.Facts] [hS5PostRefIdeal : Cert.S5PostRefIdeal.Facts] : Prop :=
  ∀ (m : (ℓ : Loc Cert.S5PostIdeal.nD Cert.S5PostIdeal.τ Cert.S5PostIdeal.sig) → Buf (Elt Ideal) ℓ) (g : Dev Cert.S5PostIdeal.nD → PrngReg)
    (m' : (ℓ : Loc Cert.S5PostRefIdeal.nD Cert.S5PostRefIdeal.τ Cert.S5PostRefIdeal.sig) → Buf (Elt Ideal) ℓ) (g' : Dev Cert.S5PostRefIdeal.nD → PrngReg), Pre_S5PostIdeal m →
    (∀ c : Dev Cert.S5PostIdeal.nD,
      m' ((c.tc : Thread Cert.S5PostRefIdeal.nD Cert.S5PostRefIdeal.τ).loc Cert.S5PostRefIdeal.main_arg0) = m ((c.tc : Thread Cert.S5PostIdeal.nD Cert.S5PostIdeal.τ).loc Cert.S5PostIdeal.main_arg0)
      ∧ m' ((c.tc : Thread Cert.S5PostRefIdeal.nD Cert.S5PostRefIdeal.τ).loc Cert.S5PostRefIdeal.main_arg1) = m ((c.tc : Thread Cert.S5PostIdeal.nD Cert.S5PostIdeal.τ).loc Cert.S5PostIdeal.main_arg1)
      ∧ m' ((c.tc : Thread Cert.S5PostRefIdeal.nD Cert.S5PostRefIdeal.τ).loc Cert.S5PostRefIdeal.main_arg2) = m ((c.tc : Thread Cert.S5PostIdeal.nD Cert.S5PostIdeal.τ).loc Cert.S5PostIdeal.main_arg2)
      ∧ m' ((c.tc : Thread Cert.S5PostRefIdeal.nD Cert.S5PostRefIdeal.τ).loc Cert.S5PostRefIdeal.main_arg3) = m ((c.tc : Thread Cert.S5PostIdeal.nD Cert.S5PostIdeal.τ).loc Cert.S5PostIdeal.main_arg3)
      ∧ m' ((c.tc : Thread Cert.S5PostRefIdeal.nD Cert.S5PostRefIdeal.τ).loc Cert.S5PostRefIdeal.main_arg4) = m ((c.tc : Thread Cert.S5PostIdeal.nD Cert.S5PostIdeal.τ).loc Cert.S5PostIdeal.main_arg4)) →
    ∃ (v0 : (c : Dev Cert.S5PostIdeal.nD) → Buf (Elt Ideal) ((c.tc : Thread Cert.S5PostIdeal.nD Cert.S5PostIdeal.τ).loc Cert.S5PostIdeal.main_v18)),
      θ_run (Cert.S5PostIdeal.defs (F := Ideal)) (onTc (τ := Cert.S5PostIdeal.τ) (Cert.S5PostIdeal.main (F := Ideal))) ⟨m, fun _ => 0, g⟩ (fun r => ∀ c : Dev Cert.S5PostIdeal.nD,
          r.2.mem ((c.tc : Thread Cert.S5PostIdeal.nD Cert.S5PostIdeal.τ).loc Cert.S5PostIdeal.main_v18) = v0 c
          ∧ r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
          ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
          ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
          ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
          ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ θ_run (Cert.S5PostRefIdeal.defs (F := Ideal)) (onTc (τ := Cert.S5PostRefIdeal.τ) (Cert.S5PostRefIdeal.main (F := Ideal))) ⟨m', fun _ => 0, g'⟩ (fun r => ∀ c : Dev Cert.S5PostRefIdeal.nD,
          r.2.mem ((c.tc : Thread Cert.S5PostRefIdeal.nD Cert.S5PostRefIdeal.τ).loc Cert.S5PostRefIdeal.main_v33) = v0 c
          ∧ r.2.mem ((c.tc : Thread Cert.S5PostRefIdeal.nD Cert.S5PostRefIdeal.τ).loc Cert.S5PostRefIdeal.main_arg0) = m' ((c.tc : Thread Cert.S5PostRefIdeal.nD Cert.S5PostRefIdeal.τ).loc Cert.S5PostRefIdeal.main_arg0)
          ∧ r.2.mem ((c.tc : Thread Cert.S5PostRefIdeal.nD Cert.S5PostRefIdeal.τ).loc Cert.S5PostRefIdeal.main_arg1) = m' ((c.tc : Thread Cert.S5PostRefIdeal.nD Cert.S5PostRefIdeal.τ).loc Cert.S5PostRefIdeal.main_arg1)
          ∧ r.2.mem ((c.tc : Thread Cert.S5PostRefIdeal.nD Cert.S5PostRefIdeal.τ).loc Cert.S5PostRefIdeal.main_arg2) = m' ((c.tc : Thread Cert.S5PostRefIdeal.nD Cert.S5PostRefIdeal.τ).loc Cert.S5PostRefIdeal.main_arg2)
          ∧ r.2.mem ((c.tc : Thread Cert.S5PostRefIdeal.nD Cert.S5PostRefIdeal.τ).loc Cert.S5PostRefIdeal.main_arg3) = m' ((c.tc : Thread Cert.S5PostRefIdeal.nD Cert.S5PostRefIdeal.τ).loc Cert.S5PostRefIdeal.main_arg3)
          ∧ r.2.mem ((c.tc : Thread Cert.S5PostRefIdeal.nD Cert.S5PostRefIdeal.τ).loc Cert.S5PostRefIdeal.main_arg4) = m' ((c.tc : Thread Cert.S5PostRefIdeal.nD Cert.S5PostRefIdeal.τ).loc Cert.S5PostRefIdeal.main_arg4))

def preserves_S5Disc_S5DiscIdeal : Prop :=
  True

def algebraic_S5DiscIdeal_S5DiscRefIdeal [hS5DiscIdeal : Cert.S5DiscIdeal.Facts] [hS5DiscRefIdeal : Cert.S5DiscRefIdeal.Facts] : Prop :=
  ∀ (m : (ℓ : Loc Cert.S5DiscIdeal.nD Cert.S5DiscIdeal.τ Cert.S5DiscIdeal.sig) → Buf (Elt Ideal) ℓ) (g : Dev Cert.S5DiscIdeal.nD → PrngReg)
    (m' : (ℓ : Loc Cert.S5DiscRefIdeal.nD Cert.S5DiscRefIdeal.τ Cert.S5DiscRefIdeal.sig) → Buf (Elt Ideal) ℓ) (g' : Dev Cert.S5DiscRefIdeal.nD → PrngReg), Pre_S5DiscIdeal m →
    (∀ c : Dev Cert.S5DiscIdeal.nD,
      m' ((c.tc : Thread Cert.S5DiscRefIdeal.nD Cert.S5DiscRefIdeal.τ).loc Cert.S5DiscRefIdeal.main_arg0) = m ((c.tc : Thread Cert.S5DiscIdeal.nD Cert.S5DiscIdeal.τ).loc Cert.S5DiscIdeal.main_arg0)
      ∧ m' ((c.tc : Thread Cert.S5DiscRefIdeal.nD Cert.S5DiscRefIdeal.τ).loc Cert.S5DiscRefIdeal.main_arg1) = m ((c.tc : Thread Cert.S5DiscIdeal.nD Cert.S5DiscIdeal.τ).loc Cert.S5DiscIdeal.main_arg1)
      ∧ m' ((c.tc : Thread Cert.S5DiscRefIdeal.nD Cert.S5DiscRefIdeal.τ).loc Cert.S5DiscRefIdeal.main_arg2) = m ((c.tc : Thread Cert.S5DiscIdeal.nD Cert.S5DiscIdeal.τ).loc Cert.S5DiscIdeal.main_arg2)) →
    ∃ (v0 : (c : Dev Cert.S5DiscIdeal.nD) → Buf (Elt Ideal) ((c.tc : Thread Cert.S5DiscIdeal.nD Cert.S5DiscIdeal.τ).loc Cert.S5DiscIdeal.main_v8_0)) (v1 : (c : Dev Cert.S5DiscIdeal.nD) → Buf (Elt Ideal) ((c.tc : Thread Cert.S5DiscIdeal.nD Cert.S5DiscIdeal.τ).loc Cert.S5DiscIdeal.main_v8_1)) (v2 : (c : Dev Cert.S5DiscIdeal.nD) → Buf (Elt Ideal) ((c.tc : Thread Cert.S5DiscIdeal.nD Cert.S5DiscIdeal.τ).loc Cert.S5DiscIdeal.main_v8_2)) (v3 : (c : Dev Cert.S5DiscIdeal.nD) → Buf (Elt Ideal) ((c.tc : Thread Cert.S5DiscIdeal.nD Cert.S5DiscIdeal.τ).loc Cert.S5DiscIdeal.main_v8_3)),
      θ_run (Cert.S5DiscIdeal.defs (F := Ideal)) (onTc (τ := Cert.S5DiscIdeal.τ) (Cert.S5DiscIdeal.main (F := Ideal))) ⟨m, fun _ => 0, g⟩ (fun r => ∀ c : Dev Cert.S5DiscIdeal.nD,
          r.2.mem ((c.tc : Thread Cert.S5DiscIdeal.nD Cert.S5DiscIdeal.τ).loc Cert.S5DiscIdeal.main_v8_0) = v0 c
          ∧ r.2.mem ((c.tc : Thread Cert.S5DiscIdeal.nD Cert.S5DiscIdeal.τ).loc Cert.S5DiscIdeal.main_v8_1) = v1 c
          ∧ r.2.mem ((c.tc : Thread Cert.S5DiscIdeal.nD Cert.S5DiscIdeal.τ).loc Cert.S5DiscIdeal.main_v8_2) = v2 c
          ∧ r.2.mem ((c.tc : Thread Cert.S5DiscIdeal.nD Cert.S5DiscIdeal.τ).loc Cert.S5DiscIdeal.main_v8_3) = v3 c
          ∧ r.2.mem ((c.tc : Thread Cert.S5DiscIdeal.nD Cert.S5DiscIdeal.τ).loc Cert.S5DiscIdeal.main_arg0) = m ((c.tc : Thread Cert.S5DiscIdeal.nD Cert.S5DiscIdeal.τ).loc Cert.S5DiscIdeal.main_arg0)
          ∧ r.2.mem ((c.tc : Thread Cert.S5DiscIdeal.nD Cert.S5DiscIdeal.τ).loc Cert.S5DiscIdeal.main_arg1) = m ((c.tc : Thread Cert.S5DiscIdeal.nD Cert.S5DiscIdeal.τ).loc Cert.S5DiscIdeal.main_arg1)
          ∧ r.2.mem ((c.tc : Thread Cert.S5DiscIdeal.nD Cert.S5DiscIdeal.τ).loc Cert.S5DiscIdeal.main_arg2) = m ((c.tc : Thread Cert.S5DiscIdeal.nD Cert.S5DiscIdeal.τ).loc Cert.S5DiscIdeal.main_arg2))
      ∧ θ_run (Cert.S5DiscRefIdeal.defs (F := Ideal)) (onTc (τ := Cert.S5DiscRefIdeal.τ) (Cert.S5DiscRefIdeal.main (F := Ideal))) ⟨m', fun _ => 0, g'⟩ (fun r => ∀ c : Dev Cert.S5DiscRefIdeal.nD,
          r.2.mem ((c.tc : Thread Cert.S5DiscRefIdeal.nD Cert.S5DiscRefIdeal.τ).loc Cert.S5DiscRefIdeal.main_v14) = v0 c
          ∧ r.2.mem ((c.tc : Thread Cert.S5DiscRefIdeal.nD Cert.S5DiscRefIdeal.τ).loc Cert.S5DiscRefIdeal.main_v18) = v1 c
          ∧ r.2.mem ((c.tc : Thread Cert.S5DiscRefIdeal.nD Cert.S5DiscRefIdeal.τ).loc Cert.S5DiscRefIdeal.main_v27) = v2 c
          ∧ r.2.mem ((c.tc : Thread Cert.S5DiscRefIdeal.nD Cert.S5DiscRefIdeal.τ).loc Cert.S5DiscRefIdeal.main_v33) = v3 c
          ∧ r.2.mem ((c.tc : Thread Cert.S5DiscRefIdeal.nD Cert.S5DiscRefIdeal.τ).loc Cert.S5DiscRefIdeal.main_arg0) = m' ((c.tc : Thread Cert.S5DiscRefIdeal.nD Cert.S5DiscRefIdeal.τ).loc Cert.S5DiscRefIdeal.main_arg0)
          ∧ r.2.mem ((c.tc : Thread Cert.S5DiscRefIdeal.nD Cert.S5DiscRefIdeal.τ).loc Cert.S5DiscRefIdeal.main_arg1) = m' ((c.tc : Thread Cert.S5DiscRefIdeal.nD Cert.S5DiscRefIdeal.τ).loc Cert.S5DiscRefIdeal.main_arg1)
          ∧ r.2.mem ((c.tc : Thread Cert.S5DiscRefIdeal.nD Cert.S5DiscRefIdeal.τ).loc Cert.S5DiscRefIdeal.main_arg2) = m' ((c.tc : Thread Cert.S5DiscRefIdeal.nD Cert.S5DiscRefIdeal.τ).loc Cert.S5DiscRefIdeal.main_arg2))

def preserves_AttnPrep_AttnPrepIdeal : Prop :=
  True

def algebraic_AttnPrepIdeal_AttnPrepRefIdeal [hAttnPrepIdeal : Cert.AttnPrepIdeal.Facts] [hAttnPrepRefIdeal : Cert.AttnPrepRefIdeal.Facts] : Prop :=
  ∀ (m : (ℓ : Loc Cert.AttnPrepIdeal.nD Cert.AttnPrepIdeal.τ Cert.AttnPrepIdeal.sig) → Buf (Elt Ideal) ℓ) (g : Dev Cert.AttnPrepIdeal.nD → PrngReg)
    (m' : (ℓ : Loc Cert.AttnPrepRefIdeal.nD Cert.AttnPrepRefIdeal.τ Cert.AttnPrepRefIdeal.sig) → Buf (Elt Ideal) ℓ) (g' : Dev Cert.AttnPrepRefIdeal.nD → PrngReg), Pre_AttnPrepIdeal m →
    (∀ c : Dev Cert.AttnPrepIdeal.nD,
      m' ((c.tc : Thread Cert.AttnPrepRefIdeal.nD Cert.AttnPrepRefIdeal.τ).loc Cert.AttnPrepRefIdeal.main_arg0) = m ((c.tc : Thread Cert.AttnPrepIdeal.nD Cert.AttnPrepIdeal.τ).loc Cert.AttnPrepIdeal.main_arg0)) →
    ∃ (v0 : (c : Dev Cert.AttnPrepIdeal.nD) → Buf (Elt Ideal) ((c.tc : Thread Cert.AttnPrepIdeal.nD Cert.AttnPrepIdeal.τ).loc Cert.AttnPrepIdeal.main_v20)) (v1 : (c : Dev Cert.AttnPrepIdeal.nD) → Buf (Elt Ideal) ((c.tc : Thread Cert.AttnPrepIdeal.nD Cert.AttnPrepIdeal.τ).loc Cert.AttnPrepIdeal.main_v21)),
      θ_run (Cert.AttnPrepIdeal.defs (F := Ideal)) (onTc (τ := Cert.AttnPrepIdeal.τ) (Cert.AttnPrepIdeal.main (F := Ideal))) ⟨m, fun _ => 0, g⟩ (fun r => ∀ c : Dev Cert.AttnPrepIdeal.nD,
          r.2.mem ((c.tc : Thread Cert.AttnPrepIdeal.nD Cert.AttnPrepIdeal.τ).loc Cert.AttnPrepIdeal.main_v20) = v0 c
          ∧ r.2.mem ((c.tc : Thread Cert.AttnPrepIdeal.nD Cert.AttnPrepIdeal.τ).loc Cert.AttnPrepIdeal.main_v21) = v1 c
          ∧ r.2.mem ((c.tc : Thread Cert.AttnPrepIdeal.nD Cert.AttnPrepIdeal.τ).loc Cert.AttnPrepIdeal.main_arg0) = m ((c.tc : Thread Cert.AttnPrepIdeal.nD Cert.AttnPrepIdeal.τ).loc Cert.AttnPrepIdeal.main_arg0))
      ∧ θ_run (Cert.AttnPrepRefIdeal.defs (F := Ideal)) (onTc (τ := Cert.AttnPrepRefIdeal.τ) (Cert.AttnPrepRefIdeal.main (F := Ideal))) ⟨m', fun _ => 0, g'⟩ (fun r => ∀ c : Dev Cert.AttnPrepRefIdeal.nD,
          r.2.mem ((c.tc : Thread Cert.AttnPrepRefIdeal.nD Cert.AttnPrepRefIdeal.τ).loc Cert.AttnPrepRefIdeal.main_v5) = v0 c
          ∧ r.2.mem ((c.tc : Thread Cert.AttnPrepRefIdeal.nD Cert.AttnPrepRefIdeal.τ).loc Cert.AttnPrepRefIdeal.main_v6) = v1 c
          ∧ r.2.mem ((c.tc : Thread Cert.AttnPrepRefIdeal.nD Cert.AttnPrepRefIdeal.τ).loc Cert.AttnPrepRefIdeal.main_arg0) = m' ((c.tc : Thread Cert.AttnPrepRefIdeal.nD Cert.AttnPrepRefIdeal.τ).loc Cert.AttnPrepRefIdeal.main_arg0))

def preserves_DiffAttn_DiffAttnIdeal : Prop :=
  True

def Claim : Prop :=
  ∃ (hFinalNorm : Cert.FinalNorm.Facts) (hFinalNormIdeal : Cert.FinalNormIdeal.Facts) (hFinalNormRefIdeal : Cert.FinalNormRefIdeal.Facts) (hMixFfn : Cert.MixFfn.Facts) (hMixFfnIdeal : Cert.MixFfnIdeal.Facts) (hMixFfnRefIdeal : Cert.MixFfnRefIdeal.Facts) (hInProj : Cert.InProj.Facts) (hInProjIdeal : Cert.InProjIdeal.Facts) (hInProjRefIdeal : Cert.InProjRefIdeal.Facts) (hOddInS5 : Cert.OddInS5.Facts) (hOddInS5Ideal : Cert.OddInS5Ideal.Facts) (hOddInS5RefIdeal : Cert.OddInS5RefIdeal.Facts) (hOddInRw : Cert.OddInRw.Facts) (hOddInRwIdeal : Cert.OddInRwIdeal.Facts) (hOddInRwRefIdeal : Cert.OddInRwRefIdeal.Facts) (hS5Post : Cert.S5Post.Facts) (hS5PostIdeal : Cert.S5PostIdeal.Facts) (hS5PostRefIdeal : Cert.S5PostRefIdeal.Facts) (hS5Disc : Cert.S5Disc.Facts) (hS5DiscIdeal : Cert.S5DiscIdeal.Facts) (hS5DiscRefIdeal : Cert.S5DiscRefIdeal.Facts) (hAttnPrep : Cert.AttnPrep.Facts) (hAttnPrepIdeal : Cert.AttnPrepIdeal.Facts) (hAttnPrepRefIdeal : Cert.AttnPrepRefIdeal.Facts) (hDiffAttn : Cert.DiffAttn.Facts) (hDiffAttnIdeal : Cert.DiffAttnIdeal.Facts),
    quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_MixFfn (hMixFfn := hMixFfn)
    ∧ quiescent_MixFfnIdeal (hMixFfnIdeal := hMixFfnIdeal)
    ∧ quiescent_MixFfnRefIdeal (hMixFfnRefIdeal := hMixFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OddInS5 (hOddInS5 := hOddInS5)
    ∧ quiescent_OddInS5Ideal (hOddInS5Ideal := hOddInS5Ideal)
    ∧ quiescent_OddInS5RefIdeal (hOddInS5RefIdeal := hOddInS5RefIdeal)
    ∧ quiescent_OddInRw (hOddInRw := hOddInRw)
    ∧ quiescent_OddInRwIdeal (hOddInRwIdeal := hOddInRwIdeal)
    ∧ quiescent_OddInRwRefIdeal (hOddInRwRefIdeal := hOddInRwRefIdeal)
    ∧ quiescent_S5Post (hS5Post := hS5Post)
    ∧ quiescent_S5PostIdeal (hS5PostIdeal := hS5PostIdeal)
    ∧ quiescent_S5PostRefIdeal (hS5PostRefIdeal := hS5PostRefIdeal)
    ∧ quiescent_S5Disc (hS5Disc := hS5Disc)
    ∧ quiescent_S5DiscIdeal (hS5DiscIdeal := hS5DiscIdeal)
    ∧ quiescent_S5DiscRefIdeal (hS5DiscRefIdeal := hS5DiscRefIdeal)
    ∧ quiescent_AttnPrep (hAttnPrep := hAttnPrep)
    ∧ quiescent_AttnPrepIdeal (hAttnPrepIdeal := hAttnPrepIdeal)
    ∧ quiescent_AttnPrepRefIdeal (hAttnPrepRefIdeal := hAttnPrepRefIdeal)
    ∧ quiescent_DiffAttn (hDiffAttn := hDiffAttn)
    ∧ quiescent_DiffAttnIdeal (hDiffAttnIdeal := hDiffAttnIdeal)
    ∧ preserves_FinalNorm_FinalNormIdeal
    ∧ algebraic_FinalNormIdeal_FinalNormRefIdeal (hFinalNormIdeal := hFinalNormIdeal) (hFinalNormRefIdeal := hFinalNormRefIdeal)
    ∧ preserves_MixFfn_MixFfnIdeal
    ∧ algebraic_MixFfnIdeal_MixFfnRefIdeal (hMixFfnIdeal := hMixFfnIdeal) (hMixFfnRefIdeal := hMixFfnRefIdeal)
    ∧ preserves_InProj_InProjIdeal
    ∧ algebraic_InProjIdeal_InProjRefIdeal (hInProjIdeal := hInProjIdeal) (hInProjRefIdeal := hInProjRefIdeal)
    ∧ preserves_OddInS5_OddInS5Ideal
    ∧ algebraic_OddInS5Ideal_OddInS5RefIdeal (hOddInS5Ideal := hOddInS5Ideal) (hOddInS5RefIdeal := hOddInS5RefIdeal)
    ∧ preserves_OddInRw_OddInRwIdeal
    ∧ algebraic_OddInRwIdeal_OddInRwRefIdeal (hOddInRwIdeal := hOddInRwIdeal) (hOddInRwRefIdeal := hOddInRwRefIdeal)
    ∧ preserves_S5Post_S5PostIdeal
    ∧ algebraic_S5PostIdeal_S5PostRefIdeal (hS5PostIdeal := hS5PostIdeal) (hS5PostRefIdeal := hS5PostRefIdeal)
    ∧ preserves_S5Disc_S5DiscIdeal
    ∧ algebraic_S5DiscIdeal_S5DiscRefIdeal (hS5DiscIdeal := hS5DiscIdeal) (hS5DiscRefIdeal := hS5DiscRefIdeal)
    ∧ preserves_AttnPrep_AttnPrepIdeal
    ∧ algebraic_AttnPrepIdeal_AttnPrepRefIdeal (hAttnPrepIdeal := hAttnPrepIdeal) (hAttnPrepRefIdeal := hAttnPrepRefIdeal)
    ∧ preserves_DiffAttn_DiffAttnIdeal
-- ==== FinalNorm.lean ====
abbrev S2x8208x2048 : Shape := ⟨3, ![2, 8208, 2048]⟩
abbrev S2048 : Shape := ⟨1, ![2048]⟩
abbrev S_ : Shape := ⟨0, ![]⟩
abbrev S2x112x2048 : Shape := ⟨3, ![2, 112, 2048]⟩
abbrev S2x8320x2048 : Shape := ⟨3, ![2, 8320, 2048]⟩
abbrev S16640x2048 : Shape := ⟨2, ![16640, 2048]⟩
abbrev S1x2048 : Shape := ⟨2, ![1, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩
abbrev S2x8192x2048 : Shape := ⟨3, ![2, 8192, 2048]⟩

abbrev nBuf : Space → Nat
  | .hbm => 9
  | .vmem => 5
  | .smem => 0
  | _ => 0

abbrev bufTy : (tb : Table) → Fin (tcTables nBuf tb) → BufTy
  | .hbm, ⟨0, _⟩ => ⟨S2x8208x2048, .f32⟩
  | .hbm, ⟨1, _⟩ => ⟨S2048, .f32⟩
  | .hbm, ⟨2, _⟩ => ⟨S_, .f32⟩
  | .hbm, ⟨3, _⟩ => ⟨S2x112x2048, .f32⟩
  | .hbm, ⟨4, _⟩ => ⟨S2x8320x2048, .f32⟩
  | .hbm, ⟨5, _⟩ => ⟨S16640x2048, .f32⟩
  | .hbm, ⟨6, _⟩ => ⟨S1x2048, .f32⟩
  | .hbm, ⟨7, _⟩ => ⟨S16384x2048, .f32⟩
  | .hbm, ⟨8, _⟩ => ⟨S2x8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S2x8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c8320_i32 : BitVec 32 := 8320#32
  let v0 : BitVec 32 := Scalar.muli arg0 c8320_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c16_i32 : BitVec 32 := 16#32
  let v1 : BitVec 32 := Scalar.addi v0 c16_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalNormRefIdeal.lean ====
abbrev S2x8208x2048 : Shape := ⟨3, ![2, 8208, 2048]⟩
abbrev S2048 : Shape := ⟨1, ![2048]⟩
abbrev S_ : Shape := ⟨0, ![]⟩
abbrev S2x8208 : Shape := ⟨2, ![2, 8208]⟩
abbrev S2x8208x1 : Shape := ⟨3, ![2, 8208, 1]⟩
abbrev S1x1x2048 : Shape := ⟨3, ![1, 1, 2048]⟩
abbrev S2x8192x2048 : Shape := ⟨3, ![2, 8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x8208x2048, .f32⟩
  | .hbm, ⟨1, _⟩ => ⟨S2048, .f32⟩
  | .hbm, ⟨2, _⟩ => ⟨S2x8208x2048, .f32⟩
  | .hbm, ⟨3, _⟩ => ⟨S_, .f32⟩
  | .hbm, ⟨4, _⟩ => ⟨S2x8208, .f32⟩
  | .hbm, ⟨5, _⟩ => ⟨S2x8208x1, .f32⟩
  | .hbm, ⟨6, _⟩ => ⟨S_, .f32⟩
  | .hbm, ⟨7, _⟩ => ⟨S2x8208x1, .f32⟩
  | .hbm, ⟨8, _⟩ => ⟨S2x8208x1, .f32⟩
  | .hbm, ⟨9, _⟩ => ⟨S_, .f32⟩
  | .hbm, ⟨10, _⟩ => ⟨S2x8208x1, .f32⟩
  | .hbm, ⟨11, _⟩ => ⟨S2x8208x1, .f32⟩
  | .hbm, ⟨12, _⟩ => ⟨S2x8208x1, .f32⟩
  | .hbm, ⟨13, _⟩ => ⟨S2x8208x2048, .f32⟩
  | .hbm, ⟨14, _⟩ => ⟨S2x8208x2048, .f32⟩
  | .hbm, ⟨15, _⟩ => ⟨S1x1x2048, .f32⟩
  | .hbm, ⟨16, _⟩ => ⟨S2x8208x2048, .f32⟩
  | .hbm, ⟨17, _⟩ => ⟨S2x8208x2048, .f32⟩
  | .hbm, ⟨18, _⟩ => ⟨S2x8192x2048, .f32⟩
  | _, _ => ⟨S2x8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixFfn.lean ====
abbrev S2x8208x2048 : Shape := ⟨3, ![2, 8208, 2048]⟩
abbrev S2x8208x1024 : Shape := ⟨3, ![2, 8208, 1024]⟩
abbrev S2x2048x2048 : Shape := ⟨3, ![2, 2048, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S_ : Shape := ⟨0, ![]⟩
abbrev S2x112x2048 : Shape := ⟨3, ![2, 112, 2048]⟩
abbrev S2x8320x2048 : Shape := ⟨3, ![2, 8320, 2048]⟩
abbrev S16640x2048 : Shape := ⟨2, ![16640, 2048]⟩
abbrev S2x112x1024 : Shape := ⟨3, ![2, 112, 1024]⟩
abbrev S2x8320x1024 : Shape := ⟨3, ![2, 8320, 1024]⟩
abbrev S16640x1024 : Shape := ⟨2, ![16640, 1024]⟩
abbrev S1x2048 : Shape := ⟨2, ![1, 2048]⟩
abbrev S2048 : Shape := ⟨1, ![2048]⟩
abbrev S640x2048 : Shape := ⟨2, ![640, 2048]⟩
abbrev S640x1024 : Shape := ⟨2, ![640, 1024]⟩
abbrev S1x1024x2048 : Shape := ⟨3, ![1, 1024, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S640 : Shape := ⟨1, ![640]⟩
abbrev S640x1 : Shape := ⟨2, ![640, 1]⟩
abbrev S2048x512 : Shape := ⟨2, ![2048, 512]⟩
abbrev S640x512 : Shape := ⟨2, ![640, 512]⟩
abbrev S512x2048 : Shape := ⟨2, ![512, 2048]⟩

abbrev nBuf : Space → Nat
  | .hbm => 32
  | .vmem => 18
  | .smem => 0
  | _ => 0

abbrev bufTy : (tb : Table) → Fin (tcTables nBuf tb) → BufTy
  | .hbm, ⟨0, _⟩ => ⟨S2x8208x2048, .f32⟩
  | .hbm, ⟨1, _⟩ => ⟨S2x8208x1024, .f32⟩
  | .hbm, ⟨2, _⟩ => ⟨S2x8208x1024, .f32⟩
  | .hbm, ⟨3, _⟩ => ⟨S2x2048x2048, .f32⟩
  | .hbm, ⟨4, _⟩ => ⟨S4x2048, .f32⟩
  | .hbm, ⟨5, _⟩ => ⟨S4x2048x5632, .f32⟩
  | .hbm, ⟨6, _⟩ => ⟨S4x2048x5632, .f32⟩
  | .hbm, ⟨7, _⟩ => ⟨S4x5632x2048, .f32⟩
  | .hbm, ⟨8, _⟩ => ⟨S4x2048x5632, .bf16⟩
  | .hbm, ⟨9, _⟩ => ⟨S4x2048x5632, .bf16⟩
  | .hbm, ⟨10, _⟩ => ⟨S4x5632x2048, .bf16⟩
  | .hbm, ⟨11, _⟩ => ⟨S_, .f32⟩
  | .hbm, ⟨12, _⟩ => ⟨S2x112x2048, .f32⟩
  | .hbm, ⟨13, _⟩ => ⟨S2x8320x2048, .f32⟩
  | .hbm, ⟨14, _⟩ => ⟨S16640x2048, .f32⟩
  | .hbm, ⟨15, _⟩ => ⟨S_, .f32⟩
  | .hbm, ⟨16, _⟩ => ⟨S2x112x1024, .f32⟩
  | .hbm, ⟨17, _⟩ => ⟨S2x8320x1024, .f32⟩
  | .hbm, ⟨18, _⟩ => ⟨S16640x1024, .f32⟩
  | .hbm, ⟨19, _⟩ => ⟨S16640x1024, .bf16⟩
  | .hbm, ⟨20, _⟩ => ⟨S_, .f32⟩
  | .hbm, ⟨21, _⟩ => ⟨S2x112x1024, .f32⟩
  | .hbm, ⟨22, _⟩ => ⟨S2x8320x1024, .f32⟩
  | .hbm, ⟨23, _⟩ => ⟨S16640x1024, .f32⟩
  | .hbm, ⟨24, _⟩ => ⟨S16640x1024, .bf16⟩
  | .hbm, ⟨25, _⟩ => ⟨S2x2048x2048, .bf16⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S16640x2048, .f32⟩
  | .hbm, ⟨30, _⟩ => ⟨S2x8320x2048, .f32⟩
  | .hbm, ⟨31, _⟩ => ⟨S2x8208x2048, .f32⟩
  | .local _ .vmem, ⟨0, _⟩ => ⟨S640x2048, .f32⟩
  | .local _ .vmem, ⟨1, _⟩ => ⟨S640x2048, .f32⟩
  | .local _ .vmem, ⟨2, _⟩ => ⟨S640x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x512x2048, .bf16⟩
  | .local _ .vmem, ⟨14, _⟩ => ⟨S1x512x2048, .bf16⟩
  | .local _ .vmem, ⟨15, _⟩ => ⟨S640x2048, .f32⟩
  | .local _ .vmem, ⟨16, _⟩ => ⟨S640x2048, .f32⟩
  | .local _ .vmem, ⟨17, _⟩ => ⟨S640x2048, .bf16⟩
  | _, _ => ⟨S2x8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![26, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S640x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MixFfnRefIdeal.lean ====
abbrev S2x8208x2048 : Shape := ⟨3, ![2, 8208, 2048]⟩
abbrev S2x8208x1024 : Shape := ⟨3, ![2, 8208, 1024]⟩
abbrev S2x2048x2048 : Shape := ⟨3, ![2, 2048, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2x8208 : Shape := ⟨2, ![2, 8208]⟩
abbrev S2x8208x1 : Shape := ⟨3, ![2, 8208, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2x8208x5632 : Shape := ⟨3, ![2, 8208, 5632]⟩

abbrev nBuf : Space → Nat
  | .hbm => 51
  | .vmem => 0
  | .smem => 0
  | _ => 0

abbrev bufTy : (tb : Table) → Fin (tcTables nBuf tb) → BufTy
  | .hbm, ⟨0, _⟩ => ⟨S2x8208x2048, .f32⟩
  | .hbm, ⟨1, _⟩ => ⟨S2x8208x1024, .f32⟩
  | .hbm, ⟨2, _⟩ => ⟨S2x8208x1024, .f32⟩
  | .hbm, ⟨3, _⟩ => ⟨S2x2048x2048, .f32⟩
  | .hbm, ⟨4, _⟩ => ⟨S4x2048, .f32⟩
  | .hbm, ⟨5, _⟩ => ⟨S4x2048x5632, .f32⟩
  | .hbm, ⟨6, _⟩ => ⟨S4x2048x5632, .f32⟩
  | .hbm, ⟨7, _⟩ => ⟨S4x5632x2048, .f32⟩
  | .hbm, ⟨8, _⟩ => ⟨S2x8208x2048, .f32⟩
  | .hbm, ⟨9, _⟩ => ⟨S1x2048x2048, .f32⟩
  | .hbm, ⟨10, _⟩ => ⟨S2048x2048, .f32⟩
  | .hbm, ⟨11, _⟩ => ⟨S2x8208x2048, .f32⟩
  | .hbm, ⟨12, _⟩ => ⟨S2x8208x2048, .f32⟩
  | .hbm, ⟨13, _⟩ => ⟨S1x2048, .f32⟩
  | .hbm, ⟨14, _⟩ => ⟨S2048, .f32⟩
  | .hbm, ⟨15, _⟩ => ⟨S2x8208x2048, .f32⟩
  | .hbm, ⟨16, _⟩ => ⟨S_, .f32⟩
  | .hbm, ⟨17, _⟩ => ⟨S2x8208, .f32⟩
  | .hbm, ⟨18, _⟩ => ⟨S2x8208x1, .f32⟩
  | .hbm, ⟨19, _⟩ => ⟨S_, .f32⟩
  | .hbm, ⟨20, _⟩ => ⟨S2x8208x1, .f32⟩
  | .hbm, ⟨21, _⟩ => ⟨S2x8208x1, .f32⟩
  | .hbm, ⟨22, _⟩ => ⟨S_, .f32⟩
  | .hbm, ⟨23, _⟩ => ⟨S2x8208x1, .f32⟩
  | .hbm, ⟨24, _⟩ => ⟨S2x8208x1, .f32⟩
  | .hbm, ⟨25, _⟩ => ⟨S2x8208x1, .f32⟩
  | .hbm, ⟨26, _⟩ => ⟨S2x8208x2048, .f32⟩
  | .hbm, ⟨27, _⟩ => ⟨S2x8208x2048, .f32⟩
  | .hbm, ⟨28, _⟩ => ⟨S1x1x2048, .f32⟩
  | .hbm, ⟨29, _⟩ => ⟨S2x8208x2048, .f32⟩
  | .hbm, ⟨30, _⟩ => ⟨S2x8208x2048, .f32⟩
  | .hbm, ⟨31, _⟩ => ⟨S1x2048x5632, .f32⟩
  | .hbm, ⟨32, _⟩ => ⟨S2048x5632, .f32⟩
  | .hbm, ⟨33, _⟩ => ⟨S1x2048x5632, .f32⟩
  | .hbm, ⟨34, _⟩ => ⟨S2048x5632, .f32⟩
  | .hbm, ⟨35, _⟩ => ⟨S1x5632x2048, .f32⟩
  | .hbm, ⟨36, _⟩ => ⟨S5632x2048, .f32⟩
  | .hbm, ⟨37, _⟩ => ⟨S2x8208x5632, .f32⟩
  | .hbm, ⟨38, _⟩ => ⟨S2x8208x5632, .f32⟩
  | .hbm, ⟨39, _⟩ => ⟨S2x8208x5632, .f32⟩
  | .hbm, ⟨40, _⟩ => ⟨S_, .f32⟩
  | .hbm, ⟨41, _⟩ => ⟨S2x8208x5632, .f32⟩
  | .hbm, ⟨42, _⟩ => ⟨S2x8208x5632, .f32⟩
  | .hbm, ⟨43, _⟩ => ⟨S_, .f32⟩
  | .hbm, ⟨44, _⟩ => ⟨S2x8208x5632, .f32⟩
  | .hbm, ⟨45, _⟩ => ⟨S2x8208x5632, .f32⟩
  | .hbm, ⟨46, _⟩ => ⟨S2x8208x5632, .f32⟩
  | .hbm, ⟨47, _⟩ => ⟨S2x8208x5632, .f32⟩
  | .hbm, ⟨48, _⟩ => ⟨S2x8208x5632, .f32⟩
  | .hbm, ⟨49, _⟩ => ⟨S2x8208x2048, .f32⟩
  | .hbm, ⟨50, _⟩ => ⟨S2x8208x2048, .f32⟩
  | _, _ => ⟨S2x8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== InProj.lean ====
abbrev S2x8208x2048 : Shape := ⟨3, ![2, 8208, 2048]⟩
abbrev S4x2048 : Shape := ⟨2, ![4, 2048]⟩
abbrev S2x2048x5120 : Shape := ⟨3, ![2, 2048, 5120]⟩
abbrev S_ : Shape := ⟨0, ![]⟩
abbrev S2x112x2048 : Shape := ⟨3, ![2, 112, 2048]⟩
abbrev S2x8320x2048 : Shape := ⟨3, ![2, 8320, 2048]⟩
abbrev S16640x2048 : Shape := ⟨2, ![16640, 2048]⟩
abbrev S1x2048 : Shape := ⟨2, ![1, 2048]⟩
abbrev S2048 : Shape := ⟨1, ![2048]⟩
abbrev S1x2048x5120 : Shape := ⟨3, ![1, 2048, 5120]⟩
abbrev S2048x5120 : Shape := ⟨2, ![2048, 5120]⟩
abbrev S16640x5120 : Shape := ⟨2, ![16640, 5120]⟩
abbrev S640x2048 : Shape := ⟨2, ![640, 2048]⟩
abbrev S2048x1280 : Shape := ⟨2, ![2048, 1280]⟩
abbrev S640x1280 : Shape := ⟨2, ![640, 1280]⟩
abbrev S640 : Shape := ⟨1, ![640]⟩
abbrev S640x1 : Shape := ⟨2, ![640, 1]⟩
abbrev S2x8320x5120 : Shape := ⟨3, ![2, 8320, 5120]⟩
abbrev S2x8208x5120 : Shape := ⟨3, ![2, 8208, 5120]⟩

abbrev nBuf : Space → Nat
  | .hbm => 16
  | .vmem => 8
  | .smem => 0
  | _ => 0

abbrev bufTy : (tb : Table) → Fin (tcTables nBuf tb) → BufTy
  | .hbm, ⟨0, _⟩ => ⟨S2x8208x2048, .f32⟩
  | .hbm, ⟨1, _⟩ => ⟨S4x2048, .f32⟩
  | .hbm, ⟨2, _⟩ => ⟨S2x2048x5120, .f32⟩
  | .hbm, ⟨3, _⟩ => ⟨S_, .f32⟩
  | .hbm, ⟨4, _⟩ => ⟨S2x112x2048, .f32⟩
  | .hbm, ⟨5, _⟩ => ⟨S2x8320x2048, .f32⟩
  | .hbm, ⟨6, _⟩ => ⟨S16640x2048, .f32⟩
  | .hbm, ⟨7, _⟩ => ⟨S1x2048, .f32⟩
  | .hbm, ⟨8, _⟩ => ⟨S2048, .f32⟩
  | .hbm, ⟨9, _⟩ => ⟨S1x2048x5120, .f32⟩
  | .hbm, ⟨10, _⟩ => ⟨S2048x5120, .f32⟩
  | .hbm, ⟨11, _⟩ => ⟨S2048x5120, .bf16⟩
  | .hbm, ⟨12, _⟩ => ⟨S1x2048, .f32⟩
  | .hbm, ⟨13, _⟩ => ⟨S16640x5120, .f32⟩
  | .hbm, ⟨14, _⟩ => ⟨S2x8320x5120, .f32⟩
  | .hbm, ⟨15, _⟩ => ⟨S2x8208x5120, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S640x1280, .f32⟩
  | .local _ .vmem, ⟨6, _⟩ => ⟨S640x1280, .f32⟩
  | .local _ .vmem, ⟨7, _⟩ => ⟨S640x2048, .bf16⟩
  | _, _ => ⟨S2x8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S2x8208x2048 : Shape := ⟨3, ![2, 8208, 2048]⟩
abbrev S4x2048 : Shape := ⟨2, ![4, 2048]⟩
abbrev S2x2048x5120 : Shape := ⟨3, ![2, 2048, 5120]⟩
abbrev S1x2048 : Shape := ⟨2, ![1, 2048]⟩
abbrev S2048 : Shape := ⟨1, ![2048]⟩
abbrev S_ : Shape := ⟨0, ![]⟩
abbrev S2x8208 : Shape := ⟨2, ![2, 8208]⟩
abbrev S2x8208x1 : Shape := ⟨3, ![2, 8208, 1]⟩
abbrev S1x1x2048 : Shape := ⟨3, ![1, 1, 2048]⟩
abbrev S1x2048x5120 : Shape := ⟨3, ![1, 2048, 5120]⟩
abbrev S2048x5120 : Shape := ⟨2, ![2048, 5120]⟩
abbrev S2x8208x5120 : Shape := ⟨3, ![2, 8208, 5120]⟩

abbrev nBuf : Space → Nat
  | .hbm => 24
  | .vmem => 0
  | .smem => 0
  | _ => 0

abbrev bufTy : (tb : Table) → Fin (tcTables nBuf tb) → BufTy
  | .hbm, ⟨0, _⟩ => ⟨S2x8208x2048, .f32⟩
  | .hbm, ⟨1, _⟩ => ⟨S4x2048, .f32⟩
  | .hbm, ⟨2, _⟩ => ⟨S2x2048x5120, .f32⟩
  | .hbm, ⟨3, _⟩ => ⟨S1x2048, .f32⟩
  | .hbm, ⟨4, _⟩ => ⟨S2048, .f32⟩
  | .hbm, ⟨5, _⟩ => ⟨S2x8208x2048, .f32⟩
  | .hbm, ⟨6, _⟩ => ⟨S_, .f32⟩
  | .hbm, ⟨7, _⟩ => ⟨S2x8208, .f32⟩
  | .hbm, ⟨8, _⟩ => ⟨S2x8208x1, .f32⟩
  | .hbm, ⟨9, _⟩ => ⟨S_, .f32⟩
  | .hbm, ⟨10, _⟩ => ⟨S2x8208x1, .f32⟩
  | .hbm, ⟨11, _⟩ => ⟨S2x8208x1, .f32⟩
  | .hbm, ⟨12, _⟩ => ⟨S_, .f32⟩
  | .hbm, ⟨13, _⟩ => ⟨S2x8208x1, .f32⟩
  | .hbm, ⟨14, _⟩ => ⟨S2x8208x1, .f32⟩
  | .hbm, ⟨15, _⟩ => ⟨S2x8208x1, .f32⟩
  | .hbm, ⟨16, _⟩ => ⟨S2x8208x2048, .f32⟩
  | .hbm, ⟨17, _⟩ => ⟨S2x8208x2048, .f32⟩
  | .hbm, ⟨18, _⟩ => ⟨S1x1x2048, .f32⟩
  | .hbm, ⟨19, _⟩ => ⟨S2x8208x2048, .f32⟩
  | .hbm, ⟨20, _⟩ => ⟨S2x8208x2048, .f32⟩
  | .hbm, ⟨21, _⟩ => ⟨S1x2048x5120, .f32⟩
  | .hbm, ⟨22, _⟩ => ⟨S2048x5120, .f32⟩
  | .hbm, ⟨23, _⟩ => ⟨S2x8208x5120, .f32⟩
  | _, _ => ⟨S2x8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OddInS5.lean ====
abbrev S2x8208x2048 : Shape := ⟨3, ![2, 8208, 2048]⟩
abbrev S4x2048 : Shape := ⟨2, ![4, 2048]⟩
abbrev S2x2048x4544 : Shape := ⟨3, ![2, 2048, 4544]⟩
abbrev S1x2048x4544 : Shape := ⟨3, ![1, 2048, 4544]⟩
abbrev S2048x4544 : Shape := ⟨2, ![2048, 4544]⟩
abbrev S2048x4096 : Shape := ⟨2, ![2048, 4096]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S2048x4608 : Shape := ⟨2, ![2048, 4608]⟩
abbrev S2x112x2048 : Shape := ⟨3, ![2, 112, 2048]⟩
abbrev S2x8320x2048 : Shape := ⟨3, ![2, 8320, 2048]⟩
abbrev S16640x2048 : Shape := ⟨2, ![16640, 2048]⟩
abbrev S1x2048 : Shape := ⟨2, ![1, 2048]⟩
abbrev S2048 : Shape := ⟨1, ![2048]⟩
abbrev S2048x1024 : Shape := ⟨2, ![2048, 1024]⟩
abbrev S16640x1024 : Shape := ⟨2, ![16640, 1024]⟩
abbrev S640x2048 : Shape := ⟨2, ![640, 2048]⟩
abbrev S640x1024 : Shape := ⟨2, ![640, 1024]⟩
abbrev S640 : Shape := ⟨1, ![640]⟩
abbrev S640x1 : Shape := ⟨2, ![640, 1]⟩
abbrev S2x8320x1024 : Shape := ⟨3, ![2, 8320, 1024]⟩
abbrev S2x8208x1024 : Shape := ⟨3, ![2, 8208, 1024]⟩

abbrev nBuf : Space → Nat
  | .hbm => 28
  | .vmem => 7
  | .smem => 0
  | _ => 0

abbrev bufTy : (tb : Table) → Fin (tcTables nBuf tb) → BufTy
  | .hbm, ⟨0, _⟩ => ⟨S2x8208x2048, .f32⟩
  | .hbm, ⟨1, _⟩ => ⟨S4x2048, .f32⟩
  | .hbm, ⟨2, _⟩ => ⟨S2x2048x4544, .f32⟩
  | .hbm, ⟨3, _⟩ => ⟨S1x2048x4544, .f32⟩
  | .hbm, ⟨4, _⟩ => ⟨S2048x4544, .f32⟩
  | .hbm, ⟨5, _⟩ => ⟨S2048x4096, .f32⟩
  | .hbm, ⟨6, _⟩ => ⟨S2048x96, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x96, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x256, .f32⟩
  | .hbm, ⟨15, _⟩ => ⟨S2048x4608, .f32⟩
  | .hbm, ⟨16, _⟩ => ⟨S2048x4608, .bf16⟩
  | .hbm, ⟨17, _⟩ => ⟨S_, .f32⟩
  | .hbm, ⟨18, _⟩ => ⟨S2x112x2048, .f32⟩
  | .hbm, ⟨19, _⟩ => ⟨S2x8320x2048, .f32⟩
  | .hbm, ⟨20, _⟩ => ⟨S16640x2048, .f32⟩
  | .hbm, ⟨21, _⟩ => ⟨S1x2048, .f32⟩
  | .hbm, ⟨22, _⟩ => ⟨S2048, .f32⟩
  | .hbm, ⟨23, _⟩ => ⟨S2048x1024, .bf16⟩
  | .hbm, ⟨24, _⟩ => ⟨S1x2048, .f32⟩
  | .hbm, ⟨25, _⟩ => ⟨S16640x1024, .f32⟩
  | .hbm, ⟨26, _⟩ => ⟨S2x8320x1024, .f32⟩
  | .hbm, ⟨27, _⟩ => ⟨S2x8208x1024, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x1024, .bf16⟩
  | .local _ .vmem, ⟨4, _⟩ => ⟨S640x1024, .f32⟩
  | .local _ .vmem, ⟨5, _⟩ => ⟨S640x1024, .f32⟩
  | .local _ .vmem, ⟨6, _⟩ => ⟨S640x2048, .bf16⟩
  | _, _ => ⟨S2x8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddInS5RefIdeal.lean ====
abbrev S2x8208x2048 : Shape := ⟨3, ![2, 8208, 2048]⟩
abbrev S4x2048 : Shape := ⟨2, ![4, 2048]⟩
abbrev S2x2048x4544 : Shape := ⟨3, ![2, 2048, 4544]⟩
abbrev S1x2048 : Shape := ⟨2, ![1, 2048]⟩
abbrev S2048 : Shape := ⟨1, ![2048]⟩
abbrev S_ : Shape := ⟨0, ![]⟩
abbrev S2x8208 : Shape := ⟨2, ![2, 8208]⟩
abbrev S2x8208x1 : Shape := ⟨3, ![2, 8208, 1]⟩
abbrev S1x1x2048 : Shape := ⟨3, ![1, 1, 2048]⟩
abbrev S1x2048x4544 : Shape := ⟨3, ![1, 2048, 4544]⟩
abbrev S2048x4544 : Shape := ⟨2, ![2048, 4544]⟩
abbrev S2x8208x4544 : Shape := ⟨3, ![2, 8208, 4544]⟩
abbrev S2x8208x1024 : Shape := ⟨3, ![2, 8208, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x8208x2048, .f32⟩
  | .hbm, ⟨1, _⟩ => ⟨S4x2048, .f32⟩
  | .hbm, ⟨2, _⟩ => ⟨S2x2048x4544, .f32⟩
  | .hbm, ⟨3, _⟩ => ⟨S1x2048, .f32⟩
  | .hbm, ⟨4, _⟩ => ⟨S2048, .f32⟩
  | .hbm, ⟨5, _⟩ => ⟨S2x8208x2048, .f32⟩
  | .hbm, ⟨6, _⟩ => ⟨S_, .f32⟩
  | .hbm, ⟨7, _⟩ => ⟨S2x8208, .f32⟩
  | .hbm, ⟨8, _⟩ => ⟨S2x8208x1, .f32⟩
  | .hbm, ⟨9, _⟩ => ⟨S_, .f32⟩
  | .hbm, ⟨10, _⟩ => ⟨S2x8208x1, .f32⟩
  | .hbm, ⟨11, _⟩ => ⟨S2x8208x1, .f32⟩
  | .hbm, ⟨12, _⟩ => ⟨S_, .f32⟩
  | .hbm, ⟨13, _⟩ => ⟨S2x8208x1, .f32⟩
  | .hbm, ⟨14, _⟩ => ⟨S2x8208x1, .f32⟩
  | .hbm, ⟨15, _⟩ => ⟨S2x8208x1, .f32⟩
  | .hbm, ⟨16, _⟩ => ⟨S2x8208x2048, .f32⟩
  | .hbm, ⟨17, _⟩ => ⟨S2x8208x2048, .f32⟩
  | .hbm, ⟨18, _⟩ => ⟨S1x1x2048, .f32⟩
  | .hbm, ⟨19, _⟩ => ⟨S2x8208x2048, .f32⟩
  | .hbm, ⟨20, _⟩ => ⟨S2x8208x2048, .f32⟩
  | .hbm, ⟨21, _⟩ => ⟨S1x2048x4544, .f32⟩
  | .hbm, ⟨22, _⟩ => ⟨S2048x4544, .f32⟩
  | .hbm, ⟨23, _⟩ => ⟨S2x8208x4544, .f32⟩
  | .hbm, ⟨24, _⟩ => ⟨S2x8208x1024, .f32⟩
  | _, _ => ⟨S2x8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== OddInRw.lean ====
abbrev S2x8208x2048 : Shape := ⟨3, ![2, 8208, 2048]⟩
abbrev S4x2048 : Shape := ⟨2, ![4, 2048]⟩
abbrev S2x2048x4544 : Shape := ⟨3, ![2, 2048, 4544]⟩
abbrev S1x2048x4544 : Shape := ⟨3, ![1, 2048, 4544]⟩
abbrev S2048x4544 : Shape := ⟨2, ![2048, 4544]⟩
abbrev S2048x4096 : Shape := ⟨2, ![2048, 4096]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S2048x4608 : Shape := ⟨2, ![2048, 4608]⟩
abbrev S2x112x2048 : Shape := ⟨3, ![2, 112, 2048]⟩
abbrev S2x8320x2048 : Shape := ⟨3, ![2, 8320, 2048]⟩
abbrev S16640x2048 : Shape := ⟨2, ![16640, 2048]⟩
abbrev S1x2048 : Shape := ⟨2, ![1, 2048]⟩
abbrev S2048 : Shape := ⟨1, ![2048]⟩
abbrev S2048x3584 : Shape := ⟨2, ![2048, 3584]⟩
abbrev S16640x3584 : Shape := ⟨2, ![16640, 3584]⟩
abbrev S640x2048 : Shape := ⟨2, ![640, 2048]⟩
abbrev S2048x1792 : Shape := ⟨2, ![2048, 1792]⟩
abbrev S640x1792 : Shape := ⟨2, ![640, 1792]⟩
abbrev S640 : Shape := ⟨1, ![640]⟩
abbrev S640x1 : Shape := ⟨2, ![640, 1]⟩
abbrev S2x8320x3584 : Shape := ⟨3, ![2, 8320, 3584]⟩
abbrev S2x8208x3584 : Shape := ⟨3, ![2, 8208, 3584]⟩
abbrev S2x8208x3168 : Shape := ⟨3, ![2, 8208, 3168]⟩
abbrev S2x8208x96 : Shape := ⟨3, ![2, 8208, 96]⟩
abbrev S2x8208x256 : Shape := ⟨3, ![2, 8208, 256]⟩
abbrev S2x8208x3520 : Shape := ⟨3, ![2, 8208, 3520]⟩

abbrev nBuf : Space → Nat
  | .hbm => 32
  | .vmem => 8
  | .smem => 0
  | _ => 0

abbrev bufTy : (tb : Table) → Fin (tcTables nBuf tb) → BufTy
  | .hbm, ⟨0, _⟩ => ⟨S2x8208x2048, .f32⟩
  | .hbm, ⟨1, _⟩ => ⟨S4x2048, .f32⟩
  | .hbm, ⟨2, _⟩ => ⟨S2x2048x4544, .f32⟩
  | .hbm, ⟨3, _⟩ => ⟨S1x2048x4544, .f32⟩
  | .hbm, ⟨4, _⟩ => ⟨S2048x4544, .f32⟩
  | .hbm, ⟨5, _⟩ => ⟨S2048x4096, .f32⟩
  | .hbm, ⟨6, _⟩ => ⟨S2048x96, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x96, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x256, .f32⟩
  | .hbm, ⟨15, _⟩ => ⟨S2048x4608, .f32⟩
  | .hbm, ⟨16, _⟩ => ⟨S2048x4608, .bf16⟩
  | .hbm, ⟨17, _⟩ => ⟨S_, .f32⟩
  | .hbm, ⟨18, _⟩ => ⟨S2x112x2048, .f32⟩
  | .hbm, ⟨19, _⟩ => ⟨S2x8320x2048, .f32⟩
  | .hbm, ⟨20, _⟩ => ⟨S16640x2048, .f32⟩
  | .hbm, ⟨21, _⟩ => ⟨S1x2048, .f32⟩
  | .hbm, ⟨22, _⟩ => ⟨S2048, .f32⟩
  | .hbm, ⟨23, _⟩ => ⟨S2048x3584, .bf16⟩
  | .hbm, ⟨24, _⟩ => ⟨S1x2048, .f32⟩
  | .hbm, ⟨25, _⟩ => ⟨S16640x3584, .f32⟩
  | .hbm, ⟨26, _⟩ => ⟨S2x8320x3584, .f32⟩
  | .hbm, ⟨27, _⟩ => ⟨S2x8208x3584, .f32⟩
  | .hbm, ⟨28, _⟩ => ⟨S2x8208x3168, .f32⟩
  | .hbm, ⟨29, _⟩ => ⟨S2x8208x96, .f32⟩
  | .hbm, ⟨30, _⟩ => ⟨S2x8208x256, .f32⟩
  | .hbm, ⟨31, _⟩ => ⟨S2x8208x3520, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S640x1792, .f32⟩
  | .local _ .vmem, ⟨6, _⟩ => ⟨S640x1792, .f32⟩
  | .local _ .vmem, ⟨7, _⟩ => ⟨S640x2048, .bf16⟩
  | _, _ => ⟨S2x8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddInRwRefIdeal.lean ====
abbrev S2x8208x2048 : Shape := ⟨3, ![2, 8208, 2048]⟩
abbrev S4x2048 : Shape := ⟨2, ![4, 2048]⟩
abbrev S2x2048x4544 : Shape := ⟨3, ![2, 2048, 4544]⟩
abbrev S1x2048 : Shape := ⟨2, ![1, 2048]⟩
abbrev S2048 : Shape := ⟨1, ![2048]⟩
abbrev S_ : Shape := ⟨0, ![]⟩
abbrev S2x8208 : Shape := ⟨2, ![2, 8208]⟩
abbrev S2x8208x1 : Shape := ⟨3, ![2, 8208, 1]⟩
abbrev S1x1x2048 : Shape := ⟨3, ![1, 1, 2048]⟩
abbrev S1x2048x4544 : Shape := ⟨3, ![1, 2048, 4544]⟩
abbrev S2048x4544 : Shape := ⟨2, ![2048, 4544]⟩
abbrev S2x8208x4544 : Shape := ⟨3, ![2, 8208, 4544]⟩
abbrev S2x8208x3520 : Shape := ⟨3, ![2, 8208, 3520]⟩

abbrev nBuf : Space → Nat
  | .hbm => 25
  | .vmem => 0
  | .smem => 0
  | _ => 0

abbrev bufTy : (tb : Table) → Fin (tcTables nBuf tb) → BufTy
  | .hbm, ⟨0, _⟩ => ⟨S2x8208x2048, .f32⟩
  | .hbm, ⟨1, _⟩ => ⟨S4x2048, .f32⟩
  | .hbm, ⟨2, _⟩ => ⟨S2x2048x4544, .f32⟩
  | .hbm, ⟨3, _⟩ => ⟨S1x2048, .f32⟩
  | .hbm, ⟨4, _⟩ => ⟨S2048, .f32⟩
  | .hbm, ⟨5, _⟩ => ⟨S2x8208x2048, .f32⟩
  | .hbm, ⟨6, _⟩ => ⟨S_, .f32⟩
  | .hbm, ⟨7, _⟩ => ⟨S2x8208, .f32⟩
  | .hbm, ⟨8, _⟩ => ⟨S2x8208x1, .f32⟩
  | .hbm, ⟨9, _⟩ => ⟨S_, .f32⟩
  | .hbm, ⟨10, _⟩ => ⟨S2x8208x1, .f32⟩
  | .hbm, ⟨11, _⟩ => ⟨S2x8208x1, .f32⟩
  | .hbm, ⟨12, _⟩ => ⟨S_, .f32⟩
  | .hbm, ⟨13, _⟩ => ⟨S2x8208x1, .f32⟩
  | .hbm, ⟨14, _⟩ => ⟨S2x8208x1, .f32⟩
  | .hbm, ⟨15, _⟩ => ⟨S2x8208x1, .f32⟩
  | .hbm, ⟨16, _⟩ => ⟨S2x8208x2048, .f32⟩
  | .hbm, ⟨17, _⟩ => ⟨S2x8208x2048, .f32⟩
  | .hbm, ⟨18, _⟩ => ⟨S1x1x2048, .f32⟩
  | .hbm, ⟨19, _⟩ => ⟨S2x8208x2048, .f32⟩
  | .hbm, ⟨20, _⟩ => ⟨S2x8208x2048, .f32⟩
  | .hbm, ⟨21, _⟩ => ⟨S1x2048x4544, .f32⟩
  | .hbm, ⟨22, _⟩ => ⟨S2048x4544, .f32⟩
  | .hbm, ⟨23, _⟩ => ⟨S2x8208x4544, .f32⟩
  | .hbm, ⟨24, _⟩ => ⟨S2x8208x3520, .f32⟩
  | _, _ => ⟨S2x8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== S5Post.lean ====
abbrev S2x8208x1024 : Shape := ⟨3, ![2, 8208, 1024]⟩
abbrev S2x1024 : Shape := ⟨2, ![2, 1024]⟩
abbrev S2x1024x1024 : Shape := ⟨3, ![2, 1024, 1024]⟩
abbrev S_ : Shape := ⟨0, ![]⟩
abbrev S2x112x1024 : Shape := ⟨3, ![2, 112, 1024]⟩
abbrev S2x8320x1024 : Shape := ⟨3, ![2, 8320, 1024]⟩
abbrev S16640x1024 : Shape := ⟨2, ![16640, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S640x1024 : Shape := ⟨2, ![640, 1024]⟩

abbrev nBuf : Space → Nat
  | .hbm => 26
  | .vmem => 9
  | .smem => 0
  | _ => 0

abbrev bufTy : (tb : Table) → Fin (tcTables nBuf tb) → BufTy
  | .hbm, ⟨0, _⟩ => ⟨S2x8208x1024, .f32⟩
  | .hbm, ⟨1, _⟩ => ⟨S2x8208x1024, .f32⟩
  | .hbm, ⟨2, _⟩ => ⟨S2x1024, .f32⟩
  | .hbm, ⟨3, _⟩ => ⟨S2x1024x1024, .f32⟩
  | .hbm, ⟨4, _⟩ => ⟨S2x1024, .f32⟩
  | .hbm, ⟨5, _⟩ => ⟨S_, .f32⟩
  | .hbm, ⟨6, _⟩ => ⟨S2x112x1024, .f32⟩
  | .hbm, ⟨7, _⟩ => ⟨S2x8320x1024, .f32⟩
  | .hbm, ⟨8, _⟩ => ⟨S16640x1024, .f32⟩
  | .hbm, ⟨9, _⟩ => ⟨S_, .f32⟩
  | .hbm, ⟨10, _⟩ => ⟨S2x112x1024, .f32⟩
  | .hbm, ⟨11, _⟩ => ⟨S2x8320x1024, .f32⟩
  | .hbm, ⟨12, _⟩ => ⟨S16640x1024, .f32⟩
  | .hbm, ⟨13, _⟩ => ⟨S1x1024, .f32⟩
  | .hbm, ⟨14, _⟩ => ⟨S1024, .f32⟩
  | .hbm, ⟨15, _⟩ => ⟨S1x1024x1024, .f32⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S16640x1024, .bf16⟩
  | .hbm, ⟨23, _⟩ => ⟨S2x8320x1024, .bf16⟩
  | .hbm, ⟨24, _⟩ => ⟨S2x8208x1024, .bf16⟩
  | .hbm, ⟨25, _⟩ => ⟨S2x8208x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S640x1024, .bf16⟩
  | .local _ .vmem, ⟨8, _⟩ => ⟨S640x1024, .bf16⟩
  | _, _ => ⟨S2x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== S5PostRefIdeal.lean ====
abbrev S2x8208x1024 : Shape := ⟨3, ![2, 8208, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x8208x1024, .f32⟩
  | .hbm, ⟨1, _⟩ => ⟨S2x8208x1024, .f32⟩
  | .hbm, ⟨2, _⟩ => ⟨S2x1024, .f32⟩
  | .hbm, ⟨3, _⟩ => ⟨S2x1024x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S1x1x1024, .f32⟩
  | .hbm, ⟨8, _⟩ => ⟨S2x8208x1024, .f32⟩
  | .hbm, ⟨9, _⟩ => ⟨S2x8208x1024, .f32⟩
  | .hbm, ⟨10, _⟩ => ⟨S2x8208x1024, .f32⟩
  | .hbm, ⟨11, _⟩ => ⟨S2x8208x1024, .f32⟩
  | .hbm, ⟨12, _⟩ => ⟨S2x8208x1024, .f32⟩
  | .hbm, ⟨13, _⟩ => ⟨S_, .f32⟩
  | .hbm, ⟨14, _⟩ => ⟨S2x8208x1024, .f32⟩
  | .hbm, ⟨15, _⟩ => ⟨S2x8208x1024, .f32⟩
  | .hbm, ⟨16, _⟩ => ⟨S2x8208x1024, .f32⟩
  | .hbm, ⟨17, _⟩ => ⟨S_, .f32⟩
  | .hbm, ⟨18, _⟩ => ⟨S2x8208x1024, .f32⟩
  | .hbm, ⟨19, _⟩ => ⟨S2x8208x1024, .f32⟩
  | .hbm, ⟨20, _⟩ => ⟨S2x8208x1024, .f32⟩
  | .hbm, ⟨21, _⟩ => ⟨S_, .f32⟩
  | .hbm, ⟨22, _⟩ => ⟨S2x8208x1024, .f32⟩
  | .hbm, ⟨23, _⟩ => ⟨S2x8208x1024, .f32⟩
  | .hbm, ⟨24, _⟩ => ⟨S_, .f32⟩
  | .hbm, ⟨25, _⟩ => ⟨S2x8208x1024, .f32⟩
  | .hbm, ⟨26, _⟩ => ⟨S2x8208x1024, .f32⟩
  | .hbm, ⟨27, _⟩ => ⟨S2x8208x1024, .f32⟩
  | .hbm, ⟨28, _⟩ => ⟨S1x1024x1024, .f32⟩
  | .hbm, ⟨29, _⟩ => ⟨S1024x1024, .f32⟩
  | .hbm, ⟨30, _⟩ => ⟨S2x8208x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S2x8208x1024, .f32⟩
  | .hbm, ⟨35, _⟩ => ⟨S2x8208x1024, .f32⟩
  | .hbm, ⟨36, _⟩ => ⟨S2x8208x1024, .f32⟩
  | .hbm, ⟨37, _⟩ => ⟨S2x8208x1024, .f32⟩
  | .hbm, ⟨38, _⟩ => ⟨S_, .f32⟩
  | .hbm, ⟨39, _⟩ => ⟨S2x8208x1024, .f32⟩
  | .hbm, ⟨40, _⟩ => ⟨S2x8208x1024, .f32⟩
  | .hbm, ⟨41, _⟩ => ⟨S_, .f32⟩
  | .hbm, ⟨42, _⟩ => ⟨S2x8208x1024, .f32⟩
  | .hbm, ⟨43, _⟩ => ⟨S2x8208x1024, .f32⟩
  | .hbm, ⟨44, _⟩ => ⟨S2x8208x1024, .f32⟩
  | _, _ => ⟨S2x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== S5Disc.lean ====
abbrev S2x64x64 : Shape := ⟨3, ![2, 64, 64]⟩
abbrev S2x64 : Shape := ⟨2, ![2, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩

abbrev nBuf : Space → Nat
  | .hbm => 15
  | .vmem => 7
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S1x64x64, .f32⟩
  | .hbm, ⟨4, _⟩ => ⟨S64x64, .f32⟩
  | .hbm, ⟨5, _⟩ => ⟨S1x64x64, .f32⟩
  | .hbm, ⟨6, _⟩ => ⟨S64x64, .f32⟩
  | .hbm, ⟨7, _⟩ => ⟨S1x64, .f32⟩
  | .hbm, ⟨8, _⟩ => ⟨S64, .f32⟩
  | .hbm, ⟨9, _⟩ => ⟨S64x1, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== S5DiscRefIdeal.lean ====
abbrev S2x64x64 : Shape := ⟨3, ![2, 64, 64]⟩
abbrev S2x64 : Shape := ⟨2, ![2, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S1x64x64, .f32⟩
  | .hbm, ⟨4, _⟩ => ⟨S64x64, .f32⟩
  | .hbm, ⟨5, _⟩ => ⟨S1x64x64, .f32⟩
  | .hbm, ⟨6, _⟩ => ⟨S64x64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== AttnPrep.lean ====
abbrev S2x8208x5120 : Shape := ⟨3, ![2, 8208, 5120]⟩
abbrev S_ : Shape := ⟨0, ![]⟩
abbrev S2x112x5120 : Shape := ⟨3, ![2, 112, 5120]⟩
abbrev S2x8320x5120 : Shape := ⟨3, ![2, 8320, 5120]⟩
abbrev S16640x5120 : Shape := ⟨2, ![16640, 5120]⟩
abbrev S640 : Shape := ⟨1, ![640]⟩
abbrev S640x1 : Shape := ⟨2, ![640, 1]⟩
abbrev S640x2 : Shape := ⟨2, ![640, 2]⟩
abbrev S640x128 : Shape := ⟨2, ![640, 128]⟩
abbrev S2x8x8320x256 : Shape := ⟨4, ![2, 8, 8320, 256]⟩
abbrev S2x8x136x8320 : Shape := ⟨4, ![2, 8, 136, 8320]⟩
abbrev S640x1024 : Shape := ⟨2, ![640, 1024]⟩
abbrev S1x8x640x256 : Shape := ⟨4, ![1, 8, 640, 256]⟩
abbrev S1x8x136x640 : Shape := ⟨4, ![1, 8, 136, 640]⟩
abbrev S8x640 : Shape := ⟨2, ![8, 640]⟩
abbrev S1x1x640x128 : Shape := ⟨4, ![1, 1, 640, 128]⟩
abbrev S128x640 : Shape := ⟨2, ![128, 640]⟩
abbrev S136x640 : Shape := ⟨2, ![136, 640]⟩
abbrev S1x1x136x640 : Shape := ⟨4, ![1, 1, 136, 640]⟩
abbrev S2x8x8208x128 : Shape := ⟨4, ![2, 8, 8208, 128]⟩
abbrev S2x8208x8x128 : Shape := ⟨4, ![2, 8208, 8, 128]⟩
abbrev S2x8x128x8208 : Shape := ⟨4, ![2, 8, 128, 8208]⟩
abbrev S2x8208x8x2x64 : Shape := ⟨5, ![2, 8208, 8, 2, 64]⟩

abbrev nBuf : Space → Nat
  | .hbm => 66
  | .vmem => 9
  | .smem => 0
  | _ => 0

abbrev bufTy : (tb : Table) → Fin (tcTables nBuf tb) → BufTy
  | .hbm, ⟨0, _⟩ => ⟨S2x8208x5120, .f32⟩
  | .hbm, ⟨1, _⟩ => ⟨S_, .f32⟩
  | .hbm, ⟨2, _⟩ => ⟨S2x112x5120, .f32⟩
  | .hbm, ⟨3, _⟩ => ⟨S2x8320x5120, .f32⟩
  | .hbm, ⟨4, _⟩ => ⟨S16640x5120, .f32⟩
  | .hbm, ⟨5, _⟩ => ⟨S640, .i32⟩
  | .hbm, ⟨6, _⟩ => ⟨S_, .i32⟩
  | .hbm, ⟨7, _⟩ => ⟨S_, .i32⟩
  | .hbm, ⟨8, _⟩ => ⟨S640, .i32⟩
  | .hbm, ⟨9, _⟩ => ⟨S640, .i32⟩
  | .hbm, ⟨10, _⟩ => ⟨S640, .i32⟩
  | .hbm, ⟨11, _⟩ => ⟨S_, .i32⟩
  | .hbm, ⟨12, _⟩ => ⟨S640, .i32⟩
  | .hbm, ⟨13, _⟩ => ⟨S640, .i1⟩
  | .hbm, ⟨14, _⟩ => ⟨S640, .i32⟩
  | .hbm, ⟨15, _⟩ => ⟨S640, .i32⟩
  | .hbm, ⟨16, _⟩ => ⟨S_, .i32⟩
  | .hbm, ⟨17, _⟩ => ⟨S640, .i32⟩
  | .hbm, ⟨18, _⟩ => ⟨S640, .i1⟩
  | .hbm, ⟨19, _⟩ => ⟨S640, .i1⟩
  | .hbm, ⟨20, _⟩ => ⟨S_, .i32⟩
  | .hbm, ⟨21, _⟩ => ⟨S640, .i32⟩
  | .hbm, ⟨22, _⟩ => ⟨S640, .i32⟩
  | .hbm, ⟨23, _⟩ => ⟨S640, .i32⟩
  | .hbm, ⟨24, _⟩ => ⟨S_, .i32⟩
  | .hbm, ⟨25, _⟩ => ⟨S640, .i32⟩
  | .hbm, ⟨26, _⟩ => ⟨S640, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S640, .i32⟩
  | .hbm, ⟨34, _⟩ => ⟨S640, .i32⟩
  | .hbm, ⟨35, _⟩ => ⟨S_, .i32⟩
  | .hbm, ⟨36, _⟩ => ⟨S640, .i32⟩
  | .hbm, ⟨37, _⟩ => ⟨S640, .i1⟩
  | .hbm, ⟨38, _⟩ => ⟨S_, .i32⟩
  | .hbm, ⟨39, _⟩ => ⟨S640, .i32⟩
  | .hbm, ⟨40, _⟩ => ⟨S640, .i1⟩
  | .hbm, ⟨41, _⟩ => ⟨S_, .i32⟩
  | .hbm, ⟨42, _⟩ => ⟨S_, .i1⟩
  | .hbm, ⟨43, _⟩ => ⟨S640, .i1⟩
  | .hbm, ⟨44, _⟩ => ⟨S640, .i1⟩
  | .hbm, ⟨45, _⟩ => ⟨S640, .i1⟩
  | .hbm, ⟨46, _⟩ => ⟨S640, .i32⟩
  | .hbm, ⟨47, _⟩ => ⟨S640, .i32⟩
  | .hbm, ⟨48, _⟩ => ⟨S640, .i32⟩
  | .hbm, ⟨49, _⟩ => ⟨S640x1, .i32⟩
  | .hbm, ⟨50, _⟩ => ⟨S640x1, .i32⟩
  | .hbm, ⟨51, _⟩ => ⟨S640x2, .i32⟩
  | .hbm, ⟨52, _⟩ => ⟨S640x2, .f32⟩
  | .hbm, ⟨53, _⟩ => ⟨S_, .i32⟩
  | .hbm, ⟨54, _⟩ => ⟨S_, .f32⟩
  | .hbm, ⟨55, _⟩ => ⟨S640x128, .f32⟩
  | .hbm, ⟨56, _⟩ => ⟨S640x128, .bf16⟩
  | .hbm, ⟨57, _⟩ => ⟨S2x8x8320x256, .bf16⟩
  | .hbm, ⟨58, _⟩ => ⟨S2x8x136x8320, .bf16⟩
  | .hbm, ⟨59, _⟩ => ⟨S2x8x8208x128, .bf16⟩
  | .hbm, ⟨60, _⟩ => ⟨S2x8208x8x128, .bf16⟩
  | .hbm, ⟨61, _⟩ => ⟨S2x8x128x8208, .bf16⟩
  | .hbm, ⟨62, _⟩ => ⟨S2x8208x8x128, .bf16⟩
  | .hbm, ⟨63, _⟩ => ⟨S2x8208x8x2x64, .bf16⟩
  | .hbm, ⟨64, _⟩ => ⟨S2x8208x8x2x64, .f32⟩
  | .hbm, ⟨65, _⟩ => ⟨S2x8208x8x128, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x128, .bf16⟩
  | .local _ .vmem, ⟨5, _⟩ => ⟨S1x8x640x256, .bf16⟩
  | .local _ .vmem, ⟨6, _⟩ => ⟨S1x8x640x256, .bf16⟩
  | .local _ .vmem, ⟨7, _⟩ => ⟨S1x8x136x640, .bf16⟩
  | .local _ .vmem, ⟨8, _⟩ => ⟨S1x8x136x640, .bf16⟩
  | _, _ => ⟨S2x8208x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_c_0 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_c_2 : Ref sig .tc := ⟨.hbm, 53, rfl⟩
abbrev main_call2_v0 : Ref sig .tc := ⟨.hbm, 54, rfl⟩
abbrev main_v12 : Ref sig .tc := ⟨.hbm, 55, rfl⟩
abbrev main_v13 : Ref sig .tc := ⟨.hbm, 56, rfl⟩
abbrev main_v14_0 : Ref sig .tc := ⟨.hbm, 57, rfl⟩
abbrev main_v14_1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S640x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x136x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnPrepRefIdeal.lean ====
abbrev S2x8208x5120 : Shape := ⟨3, ![2, 8208, 5120]⟩
abbrev S2x8208x1024 : Shape := ⟨3, ![2, 8208, 1024]⟩
abbrev S2x8208x8x2x64 : Shape := ⟨5, ![2, 8208, 8, 2, 64]⟩
abbrev S2x8208x8x128 : Shape := ⟨4, ![2, 8208, 8, 128]⟩

abbrev nBuf : Space → Nat
  | .hbm => 8
  | .vmem => 0
  | .smem => 0
  | _ => 0

abbrev bufTy : (tb : Table) → Fin (tcTables nBuf tb) → BufTy
  | .hbm, ⟨0, _⟩ => ⟨S2x8208x5120, .f32⟩
  | .hbm, ⟨1, _⟩ => ⟨S2x8208x1024, .f32⟩
  | .hbm, ⟨2, _⟩ => ⟨S2x8208x1024, .f32⟩
  | .hbm, ⟨3, _⟩ => ⟨S2x8208x1024, .f32⟩
  | .hbm, ⟨4, _⟩ => ⟨S2x8208x1024, .f32⟩
  | .hbm, ⟨5, _⟩ => ⟨S2x8208x1024, .f32⟩
  | .hbm, ⟨6, _⟩ => ⟨S2x8208x8x2x64, .f32⟩
  | .hbm, ⟨7, _⟩ => ⟨S2x8208x8x128, .f32⟩
  | _, _ => ⟨S2x8208x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== DiffAttn.lean ====
abbrev S16640x5120 : Shape := ⟨2, ![16640, 5120]⟩
abbrev S2x8x8320x256 : Shape := ⟨4, ![2, 8, 8320, 256]⟩
abbrev S2x8x136x8320 : Shape := ⟨4, ![2, 8, 136, 8320]⟩
abbrev S64 : Shape := ⟨1, ![64]⟩
abbrev S128 : Shape := ⟨1, ![128]⟩
abbrev S91 : Shape := ⟨1, ![91]⟩
abbrev S8 : Shape := ⟨1, ![8]⟩
abbrev S_ : Shape := ⟨0, ![]⟩
abbrev S1x64 : Shape := ⟨2, ![1, 64]⟩
abbrev S128x1 : Shape := ⟨2, ![128, 1]⟩
abbrev S16640x1024 : Shape := ⟨2, ![16640, 1024]⟩
abbrev S640x128 : Shape := ⟨2, ![640, 128]⟩
abbrev S1 : Shape := ⟨1, ![1]⟩
abbrev S1x1x640x256 : Shape := ⟨4, ![1, 1, 640, 256]⟩
abbrev S1x1x136x640 : Shape := ⟨4, ![1, 1, 136, 640]⟩
abbrev S5x256x256 : Shape := ⟨3, ![5, 256, 256]⟩
abbrev S5x1x256 : Shape := ⟨3, ![5, 1, 256]⟩
abbrev S5x136x256 : Shape := ⟨3, ![5, 136, 256]⟩
abbrev S640x256 : Shape := ⟨2, ![640, 256]⟩
abbrev S1280x256 : Shape := ⟨2, ![1280, 256]⟩
abbrev S256x256 : Shape := ⟨2, ![256, 256]⟩
abbrev S1x256x256 : Shape := ⟨3, ![1, 256, 256]⟩
abbrev S1x256 : Shape := ⟨2, ![1, 256]⟩
abbrev S136x640 : Shape := ⟨2, ![136, 640]⟩
abbrev S1x1x256 : Shape := ⟨3, ![1, 1, 256]⟩
abbrev S256 : Shape := ⟨1, ![256]⟩
abbrev S1x136x256 : Shape := ⟨3, ![1, 136, 256]⟩
abbrev S136x256 : Shape := ⟨2, ![136, 256]⟩
abbrev S640x1 : Shape := ⟨2, ![640, 1]⟩
abbrev S1x1 : Shape := ⟨2, ![1, 1]⟩
abbrev S1x128x256 : Shape := ⟨3, ![1, 128, 256]⟩
abbrev S128x256 : Shape := ⟨2, ![128, 256]⟩
abbrev S128x1280 : Shape := ⟨2, ![128, 1280]⟩
abbrev S1x1280 : Shape := ⟨2, ![1, 1280]⟩
abbrev S128x640 : Shape := ⟨2, ![128, 640]⟩
abbrev S640 : Shape := ⟨1, ![640]⟩
abbrev S1x640 : Shape := ⟨2, ![1, 640]⟩

abbrev nBuf : Space → Nat
  | .hbm => 27
  | .vmem => 16
  | .smem => 3
  | _ => 0

abbrev bufTy : (tb : Table) → Fin (tcTables nBuf tb) → BufTy
  | .hbm, ⟨0, _⟩ => ⟨S16640x5120, .f32⟩
  | .hbm, ⟨1, _⟩ => ⟨S2x8x8320x256, .bf16⟩
  | .hbm, ⟨2, _⟩ => ⟨S2x8x136x8320, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S128x1, .f32⟩
  | .hbm, ⟨26, _⟩ => ⟨S16640x1024, .bf16⟩
  | .local _ .vmem, ⟨0, _⟩ => ⟨S640x128, .f32⟩
  | .local _ .vmem, ⟨1, _⟩ => ⟨S640x128, .f32⟩
  | .local _ .vmem, ⟨2, _⟩ => ⟨S1x1x640x256, .bf16⟩
  | .local _ .vmem, ⟨3, _⟩ => ⟨S1x1x640x256, .bf16⟩
  | .local _ .vmem, ⟨4, _⟩ => ⟨S1x1x136x640, .bf16⟩
  | .local _ .vmem, ⟨5, _⟩ => ⟨S1x1x136x640, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S640x128, .bf16⟩
  | .local _ .vmem, ⟨12, _⟩ => ⟨S640x128, .bf16⟩
  | .local _ .vmem, ⟨13, _⟩ => ⟨S5x256x256, .bf16⟩
  | .local _ .vmem, ⟨14, _⟩ => ⟨S5x1x256, .f32⟩
  | .local _ .vmem, ⟨15, _⟩ => ⟨S5x136x256, .f32⟩
  | .local _ .smem, ⟨0, _⟩ => ⟨S91, .i32⟩
  | .local _ .smem, ⟨1, _⟩ => ⟨S91, .i32⟩
  | .local _ .smem, ⟨2, _⟩ => ⟨S8, .f32⟩
  | _, _ => ⟨S16640x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![2, 8, 91], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) : Fin 1 → Nat :=
  let arg1 : BitVec 32 := BitVec.ofNat 32 (i 1).val
  let v4 : Index := Scalar.indexCast arg1
  ![v4.toNat]
def k0_cond3 (v1 : BitVec 32) (v3 : BitVec 32) : BitVec 1 :=
  let v18 : BitVec 1 := Scalar.cmpi .eq v3 v1
  let v19 : BitVec 32 := Scalar.extui v18
  let c0_i32_2 : BitVec 32 := 0#32
  let v20 : BitVec 1 := Scalar.cmpi .ne v19 c0_i32_2
  v20

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.muli arg0 c13_i32
  let v1 : Index := Scalar.indexCast arg2
  let v2 : BitVec 32 := pf.at 0 (Rect.unit (s := S91) ![v1.toNat] S1.size (k0_off1_inb i)) numel1_S1
  let v3 : BitVec 32 := Scalar.addi v0 v2
  let c16_i32 : BitVec 32 := 16#32
  let v4 : BitVec 32 := Scalar.addi c16_i32 arg1
  let c0_i32 : BitVec 32 := 0#32
  ![v3.toNat, v4.toNat]

def cc0_transform_2 (k0_off1_inb : ∀ i : grid0.Coords, ∀ a, (k0_off1 i) a + S1.size a ≤ S91.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S91) ![v0.toNat] S1.size (k0_off1_inb i)) numel1_S1
  let c0_i32 : BitVec 32 := 0#32
  let c0_i32_0 : BitVec 32 := 0#32
  ![arg0.toNat, arg1.toNat, v1.toNat, c0_i32.toNat]

def cc0_transform_3 (k0_off1_inb : ∀ i : grid0.Coords, ∀ a, (k0_off1 i) a + S1.size a ≤ S91.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S91) ![v0.toNat] S1.size (k0_off1_inb i)) numel1_S1
  let c0_i32 : BitVec 32 := 0#32
  let c0_i32_0 : BitVec 32 := 0#32
  ![arg0.toNat, arg1.toNat, c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.muli arg0 c13_i32
  let v1 : Index := Scalar.indexCast arg2
  let v2 : BitVec 32 := pf.at 0 (Rect.unit (s := S91) ![v1.toNat] S1.size (k0_off1_inb i)) numel1_S1
  let v3 : BitVec 32 := Scalar.addi v0 v2
  let c0_i32 : BitVec 32 := 0#32
  ![v3.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x136x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S640x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Proof.RowMath.lean ====
/-
  What one row of the RMS norm, of the mixer's output projection and of the SwiGLU block is, over the extended reals:
  the common right hand side of the kernels' and the references' value lemmas.
-/
module

public import Idealize.ShloMosaic.Lib.Pointwise

@[expose] public section

noncomputable section

open Idealize.ShloMosaic
open scoped BigOperators

namespace Cert.RowMath

/-- The scale of a row: the reciprocal square root of its mean square plus the norm's constant. -/
def scale (x : Fin 2048 → EReal) : EReal :=
  Ideal.rsqrt (Ideal.div (∑ k, x k * x k) (Ideal.ofBits FTy.f32 0x45000000#32) + Ideal.ofBits FTy.f32 0x358637BD#32)

/-- Entry `l` of the normalised row `x` under the gain `g`. -/
def rms (x : Fin 2048 → EReal) (g : Fin 2048 → EReal) (l : Fin 2048) : EReal := x l * scale x * g l

/-- The normalised row times a column of a projection. -/
def proj (x g w : Fin 2048 → EReal) : EReal := ∑ k, rms x g k * w k

/-- Entry `l` of the stream `h` after the mixer, whose output is `a` beside `b`, is projected by `wa` above `wb`. -/
def mix (h : Fin 2048 → EReal) (a b : Fin 1024 → EReal) (wa wb : Fin 1024 → Fin 2048 → EReal) (l : Fin 2048) : EReal :=
  h l + (∑ k, a k * wa k l + ∑ k, b k * wb k l)

/-- What hidden unit `f` adds to entry `l`: `silu` of the gate times the up projection, times its weight down. -/
def unit {n : Nat} (x : Fin 2048 → EReal) (wg wu : Fin 2048 → Fin n → EReal) (wd : Fin n → Fin 2048 → EReal) (l : Fin 2048)
    (f : Fin n) : EReal :=
  ((∑ k, x k * wg k f) * Ideal.logistic (∑ k, x k * wg k f) * ∑ k, x k * wu k f) * wd f l

/-- Entry `l` of the row `x` after the feed-forward block. -/
def ffn (x g : Fin 2048 → EReal) (wg wu : Fin 2048 → Fin 5632 → EReal) (wd : Fin 5632 → Fin 2048 → EReal) (l : Fin 2048) : EReal :=
  x l + ∑ f, unit (rms x g) wg wu wd l f

theorem rms_congr {x x' g g' : Fin 2048 → EReal} (hx : ∀ k, x k = x' k) (hg : ∀ k, g k = g' k) (l : Fin 2048) :
    rms x g l = rms x' g' l := by rw [funext hx, funext hg]

theorem proj_congr {x x' g g' w w' : Fin 2048 → EReal} (hx : ∀ k, x k = x' k) (hg : ∀ k, g k = g' k) (hw : ∀ k, w k = w' k) :
    proj x g w = proj x' g' w' := by rw [funext hx, funext hg, funext hw]

theorem mix_congr {h h' : Fin 2048 → EReal} {a a' b b' : Fin 1024 → EReal} {wa wa' wb wb' : Fin 1024 → Fin 2048 → EReal}
    (hh : ∀ k, h k = h' k) (ha : ∀ k, a k = a' k) (hb : ∀ k, b k = b' k) (hwa : ∀ k l, wa k l = wa' k l)
    (hwb : ∀ k l, wb k l = wb' k l) (l : Fin 2048) : mix h a b wa wb l = mix h' a' b' wa' wb' l := by
  rw [funext hh, funext ha, funext hb, funext fun k => funext (hwa k), funext fun k => funext (hwb k)]

/-- A hidden unit's share over two numberings of the units. -/
theorem unit_congr {n n' : Nat} {x x' : Fin 2048 → EReal} {wg wu : Fin 2048 → Fin n → EReal} {wd : Fin n → Fin 2048 → EReal}
    {wg' wu' : Fin 2048 → Fin n' → EReal} {wd' : Fin n' → Fin 2048 → EReal} {l : Fin 2048} {f : Fin n} {f' : Fin n'}
    (hx : ∀ k, x k = x' k) (hg : ∀ k, wg k f = wg' k f') (hu : ∀ k, wu k f = wu' k f') (hd : wd f l = wd' f' l) :
    unit x wg wu wd l f = unit x' wg' wu' wd' l f' := by
  unfold unit
  rw [funext hx, hd]
  simp only [hg, hu]

/-- A function of the hidden units, zero past the last. -/
def past (f : Fin 5632 → EReal) (s : Nat) : EReal := if h : s < 5632 then f ⟨s, h⟩ else 0

/-- One tile of 512 hidden units more. -/
theorem sum_tile (f : Fin 5632 → EReal) (j : Nat) (hj : j < 11) :
    ∑ s ∈ Finset.range ((j + 1) * 512), past f s
      = ∑ s ∈ Finset.range (j * 512), past f s + ∑ q : Fin 512, f ⟨j * 512 + q.val, by omega⟩ := by
  rw [Nat.succ_mul, Finset.sum_range_add, Finset.sum_range (fun x => past f (j * 512 + x))]
  congr 1
  exact Finset.sum_congr rfl fun q _ => dif_pos (by omega)

/-- All eleven tiles. -/
theorem sum_tiles (f : Fin 5632 → EReal) : ∑ s ∈ Finset.range ((10 + 1) * 512), past f s = ∑ s, f s := by
  rw [Finset.sum_range]
  exact Finset.sum_congr rfl fun q _ => dif_pos q.isLt

/-- Rank-3 indices agree when their coordinates do. -/
theorem idx_ext3 {n : Fin 3 → Nat} {x y : (a : Fin 3) → Fin (n a)} (h0 : (x 0 : Nat) = y 0) (h1 : (x 1 : Nat) = y 1)
    (h2 : (x 2 : Nat) = y 2) : x = y :=
  funext fun a => Fin.ext <| match a with | ⟨0, _⟩ => h0 | ⟨1, _⟩ => h1 | ⟨2, _⟩ => h2

end Cert.RowMath

end
-- ==== Proof.FinalNorm.lean ====
/-
  The final norm: the kernel's result array after the run, read at an index, and the reference's, which are the same
  row formula. Point (b, i) of the kernel's (2, 16) grid takes the 512 rows of the padded residual stream from row
  8320 b + 16 + 512 i on (an element window) and writes block 16 b + i of the result.
-/
module

public import proofs.«01_k».proof.Defs
public import proofs.«01_k».proof.Proof.RowMath
public import proofs.«01_k».proof.Proof.Gen.FinalNorm.Frame
public import proofs.«01_k».proof.Proof.Gen.FinalNormIdeal.Frame
public import proofs.«01_k».proof.Proof.Gen.FinalNormRefIdeal.Run
public import Idealize.ShloMosaic.Lib.Pointwise
public import Idealize.ShloMosaic.Lib.Pipeline.Value
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.FinalNormIdeal.Hand

open Cert.FinalNormIdeal Cert.FinalNormIdeal.Gen Cert.RowMath

variable (m : (ℓ : Loc nD τ sig) → Buf (Elt Ideal) ℓ) (ρ : Dev nD → PrngReg)

/-- The residual stream and the gain, as device `c` is given them. -/
abbrev h (c : Dev nD) : S2x8208x2048.Idx → EReal := m ((c.tc : Thread nD τ).loc main_arg0)
abbrev g (c : Dev nD) : S2048.Idx → EReal := m ((c.tc : Thread nD τ).loc main_arg1)

/-- The stored block at an index: the norm of that row of the loaded block. -/
theorem pay_apply (v0 : Vec Ideal S512x2048 .f32) (v2 : Vec Ideal S1x2048 .f32) (r : Fin 512) (l : Fin 2048) :
    k0_pay1 v0 v2 (ix2 r l) = rms (fun k => v0 (ix2 r k)) (fun k => v2 (ix2 0 k)) l := by
  pointwise [k0_pay1]
  rfl

/-- A row of the padded stream that lies below the real length holds that row of the stream. -/
theorem stream_apply (c : Dev nD) (r : Fin 16640) (l : Fin 2048) (hr : r.val % 8320 < 8208) :
    (V m c main_v2 (ix2 r l) : EReal) = h m c (ix3 ⟨r.val / 8320, by omega⟩ ⟨r.val % 8320, hr⟩ l) := by
  unfold V V0
  after_reads_at
  rw [dif_pos hr]
  after_reads_simp

/-- The gain as the kernel is handed it. -/
theorem gain_apply (c : Dev nD) (l : Fin 2048) : (V m c main_v3 (ix2 0 l) : EReal) = g m c (ix1 l) := by
  unfold V V0
  after_reads_at

theorem row_lt (t : Fin grid0.N) (r : Fin 512) : t.val / 16 * 8320 + 16 + t.val % 16 * 512 + r.val < 16640 := by
  have := t.isLt; have := N_0; omega

theorem index0 : ∀ t : Fin grid0.N, win0_0.index t 0 = t.val / 16 * 8320 + 16 + t.val % 16 * 512 ∧ win0_0.index t 1 = 0 := by
  decide +kernel

theorem index2 : ∀ t : Fin grid0.N, win0_2.index t 0 = t.val ∧ win0_2.index t 1 = 0 := by decide +kernel

theorem iblk0_apply (c : Dev nD) (t : Fin cfg0.N) (r : Fin 512) (l : Fin 2048) :
    iblk m c 0 t (ix2 r l) = V m c main_v2 (ix2 ⟨_, row_lt t r⟩ l) := by
  show V m c main_v2 ((win0_0.rect t).emb (ix2 r l)) = _
  congr 1
  refine Shape.idx_ext₂ ?_ ?_
  · rw [Pipeline.Window.rect_emb_val_off]
    show win0_0.index t 0 + r.val = _
    rw [(index0 t).1]; rfl
  · rw [Pipeline.Window.rect_emb_val_off]
    show win0_0.index t 1 + l.val = _
    rw [(index0 t).2]; exact Nat.zero_add _

theorem iblk1_apply (c : Dev nD) (t : Fin cfg0.N) (l : Fin 2048) :
    iblk m c 1 t (ix2 0 l) = V m c main_v3 (ix2 0 l) := by
  show V m c main_v3 ((win0_1.rect t).emb (ix2 0 l)) = _
  congr 1
  refine Shape.idx_ext₂ ?_ ?_
  · exact win0_1.rect_emb_val_of_index_zero t 0 rfl _
  · exact win0_1.rect_emb_val_of_index_zero t 1 rfl _

/-- A token's row of the stream, and the gain, as functions of the lane. -/
abbrev tok (c : Dev nD) (b : Fin 2) (i : Fin 8192) : Fin 2048 → EReal := fun k => h m c (ix3 b ⟨16 + i.val, by omega⟩ k)
abbrev gain (c : Dev nD) : Fin 2048 → EReal := fun k => g m c (ix1 k)

/-- The result array: row `i` of batch `b` is the norm of token `16 + i` of that batch. -/
def out (c : Dev nD) : S16384x2048.Idx → EReal := fun i =>
  have hi : (i 0).val < 16384 := (i 0).isLt
  rms (tok m c ⟨(i 0).val / 8192, by omega⟩ ⟨(i 0).val % 8192, by omega⟩) (gain m c) (i 1)

theorem out_apply (c : Dev nD) (r : Fin 16384) (l : Fin 2048) :
    out m c (ix2 r l) = rms (tok m c ⟨r.val / 8192, by omega⟩ ⟨r.val % 8192, by omega⟩) (gain m c) l := rfl

/-- The loaded row of the stream at point `t` is a token's row. -/
theorem block_row (c : Dev nD) (t : Fin cfg0.N) (r : Fin 512) (R : Fin 16384) (hR : R.val = t.val * 512 + r.val) :
    (fun k => (iblk m c 0 t (ix2 r k) : EReal)) = tok m c ⟨R.val / 8192, by omega⟩ ⟨R.val % 8192, by omega⟩ := by
  have hlt := R.isLt
  have hr := r.isLt
  have e1 : (t.val / 16 * 8320 + 16 + t.val % 16 * 512 + r.val) / 8320 = R.val / 8192 := by omega
  have e2 : (t.val / 16 * 8320 + 16 + t.val % 16 * 512 + r.val) % 8320 = 16 + R.val % 8192 := by omega
  funext k
  rw [iblk0_apply, stream_apply _ _ _ _ (by dsimp only; omega)]
  congr 2
  · exact Fin.ext e1
  · exact Fin.ext e2

theorem flushed_eq (c : Dev nD) (t : Fin cfg0.N) :
    (dats m 0 c).flushed 2 t = (win0_2.blk t).view.read (Elt Ideal) (out m c) := by
  show (cfg0.win 2).cut (grid0.coords t) ((dats m 0 c).after 2 t) = _
  rw [after0_2]
  unfold out0_2
  have hz : (![0, 0] : Fin 2 → Nat) = fun _ => 0 := funext fun a => by fin_cases a <;> rfl
  rw [View.canon_unit_zero hz, View.ld_unit_zero hz, View.ld_unit_zero hz]
  funext y
  show k0_pay1 (iblk m c 0 t) (iblk m c 1 t) y = out m c ((win0_2.rect t).emb y)
  obtain ⟨r, l, rfl⟩ : ∃ (r : Fin 512) (l : Fin 2048), y = ix2 r l := ⟨y 0, y 1, Shape.idx_ext₂ rfl rfl⟩
  have ht : t.val < 32 := lt_of_lt_of_eq t.isLt N_0
  have e : (win0_2.rect t).emb (ix2 r l) = ix2 (⟨t.val * 512 + r.val, by omega⟩ : Fin 16384) l := by
    refine Shape.idx_ext₂ ?_ (win0_2.rect_emb_val_of_index_zero t 1 (index2 t).2 _)
    rw [Pipeline.Window.rect_emb_val win0_2 t _ 0 rfl]
    show win0_2.index t 0 * 512 + r.val = _
    rw [(index2 t).1]; rfl
  refine (pay_apply _ _ r l).trans (Eq.trans ?_ (congrArg (out m c) e).symm)
  rw [out_apply, block_row m c t r ⟨t.val * 512 + r.val, by omega⟩ rfl]
  congr 1
  funext k
  rw [iblk1_apply, gain_apply]

/-- Row `i` of the result lies in the block that point `i / 512` writes. -/
theorem cover (i : S16384x2048.Idx) :
    ∃ t : Fin cfg0.N, (cfg0.win 2).flush t = true ∧ i ∈ ((cfg0.win 2).blk t).view.set := by
  have h0 : (i 0 : Nat) < 16384 := (i 0).isLt
  have h1 : (i 1 : Nat) < 2048 := (i 1).isLt
  have hN : cfg0.N = 32 := N_0
  refine ⟨⟨(i 0 : Nat) / 512, by omega⟩, flush0_2 _, ?_⟩
  refine (Finset.ext_iff.mp (View.set_slice_whole main_v4 (win0_2.rect _)) i).mpr ?_
  rw [Rect.mem_set_unit]
  intro a
  match a with
  | ⟨0, _⟩ =>
    show win0_2.index _ 0 * 512 ≤ (i 0 : Nat) ∧ (i 0 : Nat) < win0_2.index _ 0 * 512 + 512
    rw [(index2 _).1]; dsimp only; omega
  | ⟨1, _⟩ =>
    show win0_2.index _ 1 * 2048 ≤ (i 1 : Nat) ∧ (i 1 : Nat) < win0_2.index _ 1 * 2048 + 2048
    rw [(index2 _).2]; omega

theorem final (c : Dev nD) : (dats m 0 c).arrAt 2 cfg0.N = out m c :=
  (dats m 0 c).arrAt_eq_of_cover 2 (out m c) (fun t _ => flushed_eq m c t) cover

/-- The result over the batches: token `16 + i` of batch `b`, normalised. -/
def res (c : Dev nD) : S2x8192x2048.Idx → EReal := fun i => rms (tok m c (i 0) (i 1)) (gain m c) (i 2)

theorem tail_eq (c : Dev nD) : Pipeline.afterTail₀ cfgs (dats m) 0 (V0 m) [hostOps1] c main_v5 = res m c := by
  funext j
  idx_vars j
  unfold Pipeline.afterTail₀
  after_reads_simp
  rw [show Pipeline.withArrays (cfgs 0).spec c (V0 m c) (fun w => (dats m 0 c).arrAt w (cfgs 0).N) (Proc.tc.devRef main_v4)
    = out m c from (Pipeline.withArrays_arr spec0 (by decide) c _ _ 2).trans (final m c)]
  clean_types
  pointwise [out, res]
  congr 2
  · exact Fin.ext (by dsimp only; omega)
  · exact Fin.ext (by dsimp only; omega)

/-- The run: the result, and the arguments unchanged. -/
theorem run : θ_run defs (onTc (τ := τ) (main (F := Ideal))) ⟨m, fun _ => 0, ρ⟩ fun r => ∀ c : Dev nD,
      r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.FinalNormIdeal.Hand

namespace Cert.Proof.FinalNorm

open Cert.RowMath

theorem frame_p : Cert.quiescent_FinalNorm := fun m ρ _ => Cert.FinalNorm.Gen.frame m ρ
theorem frame_pi : Cert.quiescent_FinalNormIdeal := fun m ρ _ => Cert.FinalNormIdeal.Gen.frame m ρ
theorem frame_ri : Cert.quiescent_FinalNormRefIdeal := fun m ρ _ =>
  (θ_run Cert.FinalNormRefIdeal.defs _ _).mono (fun r h => ⟨fun c => (h c).2,
      Idealize.ShloMosaic.sem_eq_zero_of_no_sems (by decide) r.2⟩)
    (Cert.FinalNormRefIdeal.Value.run (F := Ideal) m ρ)

theorem algebraic : Cert.algebraic_FinalNormIdeal_FinalNormRefIdeal := by
  intro m ρ m' ρ' _ hagree
  refine ⟨fun c => Cert.FinalNormIdeal.Hand.res m c, Cert.FinalNormIdeal.Hand.run m ρ, ?_⟩
  refine (θ_run Cert.FinalNormRefIdeal.defs _ _).mono (fun _ h c => ⟨(h c).1.trans ?_, (h c).2⟩)
    (Cert.FinalNormRefIdeal.Value.run (F := Ideal) m' ρ')
  rw [(hagree c).1, (hagree c).2]
  funext j
  change Cert.FinalNormIdeal.S2x8192x2048.Idx at j
  idx_vars j
  clean_types
  pointwise [Cert.FinalNormIdeal.Hand.res]
  rfl

end Cert.Proof.FinalNorm

end
-- ==== Proof.MixFfn.lean ====
/-
  The feed-forward call of layer 3: its frames, and its value.

  A grid point is a tile of 640 rows and a tile of 512 hidden units. The first point of a row tile puts the projected
  stream into the output block and its norm into the scratch buffer; every point adds its hidden units' share to the
  block. After point `t` the block holds the stream plus the hidden units below `(t % 11 + 1) * 512` (`outs_eq`), so the
  last point of a row tile writes back the whole sum.
-/
module

public import proofs.«01_k».proof.Defs
public import proofs.«01_k».proof.Proof.RowMath
public import proofs.«01_k».proof.Proof.Gen.MixFfn.Frame
public import proofs.«01_k».proof.Proof.Gen.MixFfnIdeal.Frame
public import proofs.«01_k».proof.Proof.Gen.MixFfnRefIdeal.Run
public import Idealize.ShloMosaic.Lib.Pointwise
public import Idealize.ShloMosaic.Lib.Pipeline.Value
public import Idealize.ShloMosaic.Lib.StableHlo.ReadAt
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open scoped BigOperators

namespace Cert.MixFfnIdeal.Hand

open Cert.MixFfnIdeal Cert.MixFfnIdeal.Gen Cert.RowMath

variable (m : (ℓ : Loc nD τ sig) → Buf (Elt Ideal) ℓ) (ρ : Dev nD → PrngReg)

/-! ## One point of the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a row tile. -/
theorem outs_first (c : Dev nD) (t : Fin cfg0.N) (h0 : t.val % 11 = 0) :
    outsAt0 m c t.val t.isLt =
      (k0_pay3 (k0_pay2 (iblk m c 0 t) (iblk m c 1 t) (iblk m c 3 t) (iblk m c 2 t) (iblk m c 4 t) (iblk m c 5 t))
          (iblk m c 6 t) (iblk m c 7 t)
          (k0_pay1 (iblk m c 0 t) (iblk m c 1 t) (iblk m c 3 t) (iblk m c 2 t) (iblk m c 4 t)) (iblk m c 8 t),
        k0_pay2 (iblk m c 0 t) (iblk m c 1 t) (iblk m c 3 t) (iblk m c 2 t) (iblk m c 4 t) (iblk m c 5 t)) := by
  rw [outsAt0_A m c t h0]
  unfold out0_A_9 sout0_A_0
  rw [View.read_writes_eq_canon _ _ _ (cover0_A_9 _ _ _ _ _ _ _ _ _ _ _ _ _ _ _ _ _ _ _ _ _ _ _ _ _ _ _ _ _ _ _ _ _ _),
    View.read_writes_eq_canon _ _ _ (scover0_A_0 _ _ _ _ _ _ _ _ _ _ _ _ _ _ _ _ _ _ _ _ _ _ _ _ _ _ _ _ _ _ _ _ _ _)]
  unfold kernelRun0_A
  dsimp only
  sl_unfold_words
  rw [View.canon_cons_unit_zero (S := S640x2048) hz2, View.canon_unit_zero (S := S640x2048) hz2]
  simp only [View.readCov_unit_zero (S := S640x2048) _ hz2, View.readAt_eq_ld, Memref.IsWhole.read_unread,
    View.ld_unit_zero (S := S640x2048) hz2, View.ld_unit_zero (S := S640x1024) hz2, View.ld_unit_zero (S := S1x2048) hz2,
    View.ld_unit_zero (S := S1x1024x2048) hz3, View.ld_unit_zero (S := S1x2048x512) hz3,
    View.ld_unit_zero (S := S1x512x2048) hz3, shapeCast_self]

/-- A later point of a row tile. -/
theorem outs_next (c : Dev nD) (t : Fin cfg0.N) (h0 : ¬t.val % 11 = 0) :
    outsAt0 m c t.val t.isLt =
      (k0_pay3 (outsAt0 m c (t.val - 1) (Nat.lt_of_le_of_lt (Nat.sub_le _ _) t.isLt)).2
          (iblk m c 6 t) (iblk m c 7 t)
          (outsAt0 m c (t.val - 1) (Nat.lt_of_le_of_lt (Nat.sub_le _ _) t.isLt)).1 (iblk m c 8 t),
        (outsAt0 m c (t.val - 1) (Nat.lt_of_le_of_lt (Nat.sub_le _ _) t.isLt)).2) := by
  rw [outsAt0_B m c t h0]
  unfold out0_B_9 sout0_B_0
  rw [View.read_writes_eq_canon _ _ _ (cover0_B_9 _ _ _ _ _ _ _ _ _ _ _ _ _ _ _ _ _ _ _ _ _ _ _ _ _ _ _ _ _ _ _ _ _ _ _ _)]
  unfold kernelRun0_B
  dsimp only
  sl_unfold_words
  rw [View.canon_unit_zero (S := S640x2048) hz2]
  simp only [View.readAt_eq_ld, Memref.IsWhole.read_unread, View.ld_unit_zero (S := S640x2048) hz2,
    View.ld_unit_zero (S := S1x2048x512) hz3, View.ld_unit_zero (S := S1x512x2048) hz3, shapeCast_self]
  exact congrArg (fun z => (k0_pay3 z _ _ _ _, _)) (Memref.IsWhole.read_unread _ _)

/-- The projected stream. -/
theorem pay1_apply (v21 : Vec Ideal S640x2048 .f32) (v23 : Vec Ideal S640x1024 .bf16) (v25 : Vec Ideal S1x1024x2048 .bf16)
    (v29 : Vec Ideal S640x1024 .bf16) (v31 : Vec Ideal S1x1024x2048 .bf16) (r : Fin 640) (l : Fin 2048) :
    k0_pay1 v21 v23 v25 v29 v31 (ix2 r l) = mix (fun k => v21 (ix2 r k)) (fun k => v23 (ix2 r k)) (fun k => v29 (ix2 r k))
      (fun k l => v25 (ix3 0 k l)) (fun k l => v31 (ix3 0 k l)) l := by
  pointwise [k0_pay1]
  exact add_assoc _ _ _

/-- Its norm. -/
theorem pay2_apply (v21 : Vec Ideal S640x2048 .f32) (v23 : Vec Ideal S640x1024 .bf16) (v25 : Vec Ideal S1x1024x2048 .bf16)
    (v29 : Vec Ideal S640x1024 .bf16) (v31 : Vec Ideal S1x1024x2048 .bf16) (v36 : Vec Ideal S1x2048 .f32) (r : Fin 640)
    (l : Fin 2048) :
    k0_pay2 v21 v23 v25 v29 v31 v36 (ix2 r l)
      = rms (fun k => k0_pay1 v21 v23 v25 v29 v31 (ix2 r k)) (fun k => v36 (ix2 0 k)) l := by
  pointwise [k0_pay2]
  rfl

/-- One tile of hidden units added. -/
theorem pay3_apply (v3 : Vec Ideal S640x2048 .bf16) (v4 v7 : Vec Ideal S1x2048x512 .bf16) (v14 : Vec Ideal S640x2048 .f32)
    (v16 : Vec Ideal S1x512x2048 .bf16) (r : Fin 640) (l : Fin 2048) :
    k0_pay3 v3 v4 v7 v14 v16 (ix2 r l) = v14 (ix2 r l) + ∑ q : Fin 512, unit (fun k => v3 (ix2 r k)) (fun k q => v4 (ix3 0 k q))
      (fun k q => v7 (ix3 0 k q)) (fun q l => v16 (ix3 0 q l)) l q := by
  pointwise [k0_pay3]
  rfl

/-! ## The blocks as rows and columns of the arrays -/

abbrev aH (c : Dev nD) : S16640x2048.Idx → EReal := V m c main_v5
abbrev aA (c : Dev nD) : S16640x1024.Idx → EReal := V m c main_v9
abbrev aB (c : Dev nD) : S16640x1024.Idx → EReal := V m c main_v13
abbrev aW (c : Dev nD) : S2x2048x2048.Idx → EReal := V m c main_v14
abbrev aN (c : Dev nD) : S1x2048.Idx → EReal := V m c main_v17
abbrev aG (c : Dev nD) : S4x2048x5632.Idx → EReal := V m c main_v0
abbrev aU (c : Dev nD) : S4x2048x5632.Idx → EReal := V m c main_v1
abbrev aD (c : Dev nD) : S4x5632x2048.Idx → EReal := V m c main_v2

theorem index_rows : ∀ t : Fin grid0.N, (win0_0.index t 0 = t.val / 11 ∧ win0_0.index t 1 = 0)
    ∧ (win0_1.index t 0 = t.val / 11 ∧ win0_1.index t 1 = 0) ∧ (win0_2.index t 0 = t.val / 11 ∧ win0_2.index t 1 = 0)
    ∧ (win0_9.index t 0 = t.val / 11 ∧ win0_9.index t 1 = 0) := by decide +kernel

theorem index_mix : ∀ t : Fin grid0.N, (win0_3.index t 0 = 1 ∧ win0_3.index t 1 = 0 ∧ win0_3.index t 2 = 0)
    ∧ (win0_4.index t 0 = 1 ∧ win0_4.index t 1 = 1 ∧ win0_4.index t 2 = 0) := by decide +kernel

theorem index_hidden : ∀ t : Fin grid0.N, (win0_6.index t 0 = 3 ∧ win0_6.index t 1 = 0 ∧ win0_6.index t 2 = t.val % 11)
    ∧ (win0_7.index t 0 = 3 ∧ win0_7.index t 1 = 0 ∧ win0_7.index t 2 = t.val % 11)
    ∧ (win0_8.index t 0 = 3 ∧ win0_8.index t 1 = t.val % 11 ∧ win0_8.index t 2 = 0) := by decide +kernel

section Blocks

variable (c : Dev nD) (t : Fin cfg0.N)

theorem blkH (r : Fin 640) (R : Fin 16640) (hR : R.val = t.val / 11 * 640 + r.val) (l : Fin 2048) :
    (iblk m c 0 t (ix2 r l) : EReal) = aH m c (ix2 R l) := by
  refine congrArg (aH m c) (?_ : (win0_0.rect t).emb (ix2 r l) = _)
  refine Shape.idx_ext₂ ?_ (win0_0.rect_emb_val_of_index_zero t 1 (index_rows t).1.2 _)
  rw [Pipeline.Window.rect_emb_val win0_0 t _ 0 rfl, (index_rows t).1.1]
  exact hR.symm

theorem blkA (r : Fin 640) (R : Fin 16640) (hR : R.val = t.val / 11 * 640 + r.val) (l : Fin 1024) :
    (iblk m c 1 t (ix2 r l) : EReal) = aA m c (ix2 R l) := by
  refine congrArg (aA m c) (?_ : (win0_1.rect t).emb (ix2 r l) = _)
  refine Shape.idx_ext₂ ?_ (win0_1.rect_emb_val_of_index_zero t 1 (index_rows t).2.1.2 _)
  rw [Pipeline.Window.rect_emb_val win0_1 t _ 0 rfl, (index_rows t).2.1.1]
  exact hR.symm

theorem blkB (r : Fin 640) (R : Fin 16640) (hR : R.val = t.val / 11 * 640 + r.val) (l : Fin 1024) :
    (iblk m c 2 t (ix2 r l) : EReal) = aB m c (ix2 R l) := by
  refine congrArg (aB m c) (?_ : (win0_2.rect t).emb (ix2 r l) = _)
  refine Shape.idx_ext₂ ?_ (win0_2.rect_emb_val_of_index_zero t 1 (index_rows t).2.2.1.2 _)
  rw [Pipeline.Window.rect_emb_val win0_2 t _ 0 rfl, (index_rows t).2.2.1.1]
  exact hR.symm

theorem blkWa (k : Fin 1024) (l : Fin 2048) :
    (iblk m c 3 t (ix3 0 k l) : EReal) = aW m c (ix3 1 ⟨k.val, by omega⟩ l) := by
  refine congrArg (aW m c) (?_ : (win0_3.rect t).emb (ix3 0 k l) = _)
  refine idx_ext3 ?_ (win0_3.rect_emb_val_of_index_zero t 1 (index_mix t).1.2.1 _)
    (win0_3.rect_emb_val_of_index_zero t 2 (index_mix t).1.2.2 _)
  rw [Pipeline.Window.rect_emb_val win0_3 t _ 0 rfl, (index_mix t).1.1]
  rfl

theorem blkWb (k : Fin 1024) (l : Fin 2048) :
    (iblk m c 4 t (ix3 0 k l) : EReal) = aW m c (ix3 1 ⟨1024 + k.val, by omega⟩ l) := by
  refine congrArg (aW m c) (?_ : (win0_4.rect t).emb (ix3 0 k l) = _)
  refine idx_ext3 ?_ ?_ (win0_4.rect_emb_val_of_index_zero t 2 (index_mix t).2.2.2 _)
  · rw [Pipeline.Window.rect_emb_val win0_4 t _ 0 rfl, (index_mix t).2.1]
    rfl
  · rw [Pipeline.Window.rect_emb_val win0_4 t _ 1 rfl, (index_mix t).2.2.1]
    rfl

theorem blkN (l : Fin 2048) : (iblk m c 5 t (ix2 0 l) : EReal) = aN m c (ix2 0 l) := by
  refine congrArg (aN m c) (?_ : (win0_5.rect t).emb (ix2 0 l) = _)
  exact Shape.idx_ext₂ (win0_5.rect_emb_val_of_index_zero t 0 rfl _) (win0_5.rect_emb_val_of_index_zero t 1 rfl _)

theorem blkG (k : Fin 2048) (q : Fin 512) :
    (iblk m c 6 t (ix3 0 k q) : EReal) = aG m c (ix3 3 k ⟨t.val % 11 * 512 + q.val, by omega⟩) := by
  refine congrArg (aG m c) (?_ : (win0_6.rect t).emb (ix3 0 k q) = _)
  refine idx_ext3 ?_ (win0_6.rect_emb_val_of_index_zero t 1 (index_hidden t).1.2.1 _) ?_
  · rw [Pipeline.Window.rect_emb_val win0_6 t _ 0 rfl, (index_hidden t).1.1]
    rfl
  · rw [Pipeline.Window.rect_emb_val win0_6 t _ 2 rfl, (index_hidden t).1.2.2]
    rfl

theorem blkU (k : Fin 2048) (q : Fin 512) :
    (iblk m c 7 t (ix3 0 k q) : EReal) = aU m c (ix3 3 k ⟨t.val % 11 * 512 + q.val, by omega⟩) := by
  refine congrArg (aU m c) (?_ : (win0_7.rect t).emb (ix3 0 k q) = _)
  refine idx_ext3 ?_ (win0_7.rect_emb_val_of_index_zero t 1 (index_hidden t).2.1.2.1 _) ?_
  · rw [Pipeline.Window.rect_emb_val win0_7 t _ 0 rfl, (index_hidden t).2.1.1]
    rfl
  · rw [Pipeline.Window.rect_emb_val win0_7 t _ 2 rfl, (index_hidden t).2.1.2.2]
    rfl

theorem blkD (q : Fin 512) (l : Fin 2048) :
    (iblk m c 8 t (ix3 0 q l) : EReal) = aD m c (ix3 3 ⟨t.val % 11 * 512 + q.val, by omega⟩ l) := by
  refine congrArg (aD m c) (?_ : (win0_8.rect t).emb (ix3 0 q l) = _)
  refine idx_ext3 ?_ ?_ (win0_8.rect_emb_val_of_index_zero t 2 (index_hidden t).2.2.2.2 _)
  · rw [Pipeline.Window.rect_emb_val win0_8 t _ 0 rfl, (index_hidden t).2.2.1]
    rfl
  · rw [Pipeline.Window.rect_emb_val win0_8 t _ 1 rfl, (index_hidden t).2.2.2.1]
    rfl

end Blocks

/-! ## Point after point -/

/-- Row `R` of the projected stream. -/
def mid (c : Dev nD) (R : Fin 16640) (l : Fin 2048) : EReal :=
  mix (fun k => aH m c (ix2 R k)) (fun k => aA m c (ix2 R k)) (fun k => aB m c (ix2 R k))
    (fun k l => aW m c (ix3 1 ⟨k.val, by omega⟩ l)) (fun k l => aW m c (ix3 1 ⟨1024 + k.val, by omega⟩ l)) l

/-- Its norm. -/
def normed (c : Dev nD) (R : Fin 16640) : Fin 2048 → EReal := rms (mid m c R) (fun k => aN m c (ix2 0 k))

/-- What hidden unit `f` adds to entry `l` of row `R`. -/
def share (c : Dev nD) (R : Fin 16640) (l : Fin 2048) (f : Fin 5632) : EReal :=
  unit (normed m c R) (fun k f => aG m c (ix3 3 k f)) (fun k f => aU m c (ix3 3 k f)) (fun f l => aD m c (ix3 3 f l)) l f

theorem first_mid (c : Dev nD) (t : Fin cfg0.N) (r : Fin 640) (R : Fin 16640) (hR : R.val = t.val / 11 * 640 + r.val)
    (l : Fin 2048) :
    k0_pay1 (iblk m c 0 t) (iblk m c 1 t) (iblk m c 3 t) (iblk m c 2 t) (iblk m c 4 t) (ix2 r l) = mid m c R l := by
  exact (pay1_apply _ _ _ _ _ r l).trans (mix_congr (blkH m c t r R hR) (blkA m c t r R hR) (blkB m c t r R hR) (blkWa m c t)
    (blkWb m c t) l)

theorem first_norm (c : Dev nD) (t : Fin cfg0.N) (r : Fin 640) (R : Fin 16640) (hR : R.val = t.val / 11 * 640 + r.val)
    (l : Fin 2048) :
    k0_pay2 (iblk m c 0 t) (iblk m c 1 t) (iblk m c 3 t) (iblk m c 2 t) (iblk m c 4 t) (iblk m c 5 t) (ix2 r l)
      = normed m c R l := by
  exact (pay2_apply _ _ _ _ _ _ r l).trans (rms_congr (first_mid m c t r R hR) (blkN m c t) l)

/-- A tile's payload over the norm of row `R`. -/
theorem tile_apply (c : Dev nD) (t : Fin cfg0.N) (v3 : Vec Ideal S640x2048 .bf16) (v14 : Vec Ideal S640x2048 .f32) (r : Fin 640)
    (R : Fin 16640) (h3 : ∀ k, (v3 (ix2 r k) : EReal) = normed m c R k) (l : Fin 2048) :
    k0_pay3 v3 (iblk m c 6 t) (iblk m c 7 t) v14 (iblk m c 8 t) (ix2 r l)
      = v14 (ix2 r l) + ∑ q : Fin 512, share m c R l ⟨t.val % 11 * 512 + q.val, by omega⟩ := by
  refine (pay3_apply _ _ _ _ _ r l).trans (congrArg (v14 (ix2 r l) + ·) (Finset.sum_congr rfl fun q _ => ?_))
  exact unit_congr h3 (fun k => blkG m c t k q) (fun k => blkU m c t k q) (blkD m c t q l)

/-- After point `n` the block holds the projected stream plus the hidden units so far, the scratch buffer its norm. -/
theorem outs_eq (c : Dev nD) (n : Nat) : ∀ (hn : n < cfg0.N) (r : Fin 640) (R : Fin 16640) (_ : R.val = n / 11 * 640 + r.val)
    (l : Fin 2048),
    ((outsAt0 m c n hn).1 (ix2 r l) : EReal)
        = mid m c R l + ∑ s ∈ Finset.range ((n % 11 + 1) * 512), past (share m c R l) s
      ∧ ((outsAt0 m c n hn).2 (ix2 r l) : EReal) = normed m c R l := by
  induction n with
  | zero =>
    intro hn r R hR l
    have h := outs_first m c ⟨0, hn⟩ rfl
    refine ⟨(congrArg (fun p => p.1 (ix2 r l)) h).trans ?_, (congrArg (fun p => p.2 (ix2 r l)) h).trans ?_⟩
    · refine (tile_apply m c ⟨0, hn⟩ _ _ r R (fun k => first_norm m c ⟨0, hn⟩ r R hR k) l).trans ?_
      rw [first_mid m c ⟨0, hn⟩ r R hR l, sum_tile _ _ (by omega)]
      congr 1
      exact (zero_add _).symm
    · exact first_norm m c ⟨0, hn⟩ r R hR l
  | succ n ih =>
    intro hn r R hR l
    by_cases h0 : (n + 1) % 11 = 0
    · have h := outs_first m c ⟨n + 1, hn⟩ h0
      refine ⟨(congrArg (fun p => p.1 (ix2 r l)) h).trans ?_, (congrArg (fun p => p.2 (ix2 r l)) h).trans ?_⟩
      · refine (tile_apply m c ⟨n + 1, hn⟩ _ _ r R (fun k => first_norm m c ⟨n + 1, hn⟩ r R hR k) l).trans ?_
        rw [first_mid m c ⟨n + 1, hn⟩ r R hR l, sum_tile _ _ (by omega)]
        congr 1
        rw [show ∑ s ∈ Finset.range ((n + 1) % 11 * 512), past (share m c R l) s = 0 from by rw [h0]; rfl]
        exact (zero_add _).symm
      · exact first_norm m c ⟨n + 1, hn⟩ r R hR l
    · have h := outs_next m c ⟨n + 1, hn⟩ h0
      have hR' : R.val = n / 11 * 640 + r.val := by omega
      have ih' := ih (Nat.lt_of_succ_lt hn) r R hR'
      refine ⟨(congrArg (fun p => p.1 (ix2 r l)) h).trans ?_, (congrArg (fun p => p.2 (ix2 r l)) h).trans (ih' l).2⟩
      refine (tile_apply m c ⟨n + 1, hn⟩ _ _ r R (fun k => (ih' k).2) l).trans ?_
      have e : n % 11 + 1 = (n + 1) % 11 := by omega
      refine (congrArg (· + _) (ih' l).1).trans ?_
      rw [sum_tile (share m c R l) ((n + 1) % 11) (by omega), add_assoc, e]

/-! ## The output array -/

/-- Row `R` of the output array: the feed-forward block of row `R` of the projected stream. -/
def out (c : Dev nD) : S16640x2048.Idx → EReal := fun i => mid m c (i 0) (i 1) + ∑ f, share m c (i 0) (i 1) f

theorem flushed_eq (c : Dev nD) (t : Fin cfg0.N) (hf : (cfg0.win 9).flush t = true) :
    (dats m 0 c).flushed 9 t = (win0_9.blk t).view.read (Elt Ideal) (out m c) := by
  show (cfg0.win 9).cut (grid0.coords t) ((dats m 0 c).after 9 t) = _
  rw [after0_9]
  funext y
  show (outsAt0 m c t.val t.isLt).1 y = out m c ((win0_9.rect t).emb y)
  obtain ⟨r, l, rfl⟩ : ∃ (r : Fin 640) (l : Fin 2048), y = ix2 r l := ⟨y 0, y 1, Shape.idx_ext₂ rfl rfl⟩
  have ht : t.val < 286 := lt_of_lt_of_eq t.isLt N_0
  have e : (win0_9.rect t).emb (ix2 r l) = ix2 (⟨t.val / 11 * 640 + r.val, by omega⟩ : Fin 16640) l := by
    refine Shape.idx_ext₂ ?_ (win0_9.rect_emb_val_of_index_zero t 1 (index_rows t).2.2.2.2 _)
    rw [Pipeline.Window.rect_emb_val win0_9 t _ 0 rfl, (index_rows t).2.2.2.1]
    rfl
  refine ((outs_eq m c t.val t.isLt r ⟨t.val / 11 * 640 + r.val, by omega⟩ rfl l).1).trans
    (Eq.trans ?_ (congrArg (out m c) e).symm)
  rw [(flush0_9 t).mp hf, sum_tiles]
  rfl

/-- Row `R` of the output array is in the block that the last point of row tile `R / 640` writes back. -/
theorem cover (i : S16640x2048.Idx) :
    ∃ t : Fin cfg0.N, (cfg0.win 9).flush t = true ∧ i ∈ ((cfg0.win 9).blk t).view.set := by
  have h0 : (i 0 : Nat) < 16640 := (i 0).isLt
  have h1 : (i 1 : Nat) < 2048 := (i 1).isLt
  have hN : cfg0.N = 286 := N_0
  refine ⟨⟨(i 0 : Nat) / 640 * 11 + 10, by omega⟩, (flush0_9 _).mpr (by dsimp only; omega), ?_⟩
  refine (Finset.ext_iff.mp (View.set_slice_whole main_v18 (win0_9.rect _)) i).mpr ?_
  rw [Rect.mem_set_unit]
  intro a
  match a with
  | ⟨0, _⟩ =>
    show win0_9.index _ 0 * 640 ≤ (i 0 : Nat) ∧ (i 0 : Nat) < win0_9.index _ 0 * 640 + 640
    rw [(index_rows _).2.2.2.1]; dsimp only; omega
  | ⟨1, _⟩ =>
    show win0_9.index _ 1 * 2048 ≤ (i 1 : Nat) ∧ (i 1 : Nat) < win0_9.index _ 1 * 2048 + 2048
    rw [(index_rows _).2.2.2.2]; omega

theorem final (c : Dev nD) : (dats m 0 c).arrAt 9 cfg0.N = out m c :=
  (dats m 0 c).arrAt_eq_of_cover 9 (out m c) (fun t hf => flushed_eq m c t hf) cover

/-! ## The result of the run -/

/-- The arguments, as device `c` is given them. -/
abbrev h (c : Dev nD) : S2x8208x2048.Idx → EReal := m ((c.tc : Thread nD τ).loc main_arg0)
abbrev ya (c : Dev nD) : S2x8208x1024.Idx → EReal := m ((c.tc : Thread nD τ).loc main_arg1)
abbrev yb (c : Dev nD) : S2x8208x1024.Idx → EReal := m ((c.tc : Thread nD τ).loc main_arg2)
abbrev wOut (c : Dev nD) : S2x2048x2048.Idx → EReal := m ((c.tc : Thread nD τ).loc main_arg3)
abbrev gain (c : Dev nD) : S4x2048.Idx → EReal := m ((c.tc : Thread nD τ).loc main_arg4)
abbrev wGate (c : Dev nD) : S4x2048x5632.Idx → EReal := m ((c.tc : Thread nD τ).loc main_arg5)
abbrev wUp (c : Dev nD) : S4x2048x5632.Idx → EReal := m ((c.tc : Thread nD τ).loc main_arg6)
abbrev wDown (c : Dev nD) : S4x5632x2048.Idx → EReal := m ((c.tc : Thread nD τ).loc main_arg7)

section Arrays

variable (c : Dev nD)

theorem aH_apply (R : Fin 16640) (l : Fin 2048) (hr : R.val % 8320 < 8208) :
    aH m c (ix2 R l) = h m c (ix3 ⟨R.val / 8320, by omega⟩ ⟨R.val % 8320, hr⟩ l) := by
  unfold aH V V0
  after_reads_at
  rw [dif_pos hr]
  after_reads_simp

theorem aA_apply (R : Fin 16640) (l : Fin 1024) (hr : R.val % 8320 < 8208) :
    aA m c (ix2 R l) = ya m c (ix3 ⟨R.val / 8320, by omega⟩ ⟨R.val % 8320, hr⟩ l) := by
  unfold aA V V0
  after_reads_at
  rw [dif_pos hr]
  after_reads_simp

theorem aB_apply (R : Fin 16640) (l : Fin 1024) (hr : R.val % 8320 < 8208) :
    aB m c (ix2 R l) = yb m c (ix3 ⟨R.val / 8320, by omega⟩ ⟨R.val % 8320, hr⟩ l) := by
  unfold aB V V0
  after_reads_at
  rw [dif_pos hr]
  after_reads_simp

theorem aW_apply (j : Fin 2) (k l : Fin 2048) : aW m c (ix3 j k l) = wOut m c (ix3 j k l) := by
  unfold aW V V0
  after_reads_at

theorem aN_apply (l : Fin 2048) : aN m c (ix2 0 l) = gain m c (ix2 3 l) := by
  unfold aN V V0
  after_reads_at

theorem aG_apply (j : Fin 4) (k : Fin 2048) (f : Fin 5632) : aG m c (ix3 j k f) = wGate m c (ix3 j k f) := by
  unfold aG V V0
  after_reads_at

theorem aU_apply (j : Fin 4) (k : Fin 2048) (f : Fin 5632) : aU m c (ix3 j k f) = wUp m c (ix3 j k f) := by
  unfold aU V V0
  after_reads_at

theorem aD_apply (j : Fin 4) (f : Fin 5632) (l : Fin 2048) : aD m c (ix3 j f l) = wDown m c (ix3 j f l) := by
  unfold aD V V0
  after_reads_at

end Arrays

/-- Token `i` of batch `b` after the mixer's output projection. -/
abbrev tok (c : Dev nD) (b : Fin 2) (i : Fin 8208) : Fin 2048 → EReal :=
  mix (fun k => h m c (ix3 b i k)) (fun k => ya m c (ix3 b i k)) (fun k => yb m c (ix3 b i k))
    (fun k l => wOut m c (ix3 1 ⟨k.val, by omega⟩ l)) (fun k l => wOut m c (ix3 1 ⟨1024 + k.val, by omega⟩ l))

/-- The result over the batches. -/
def res (c : Dev nD) : S2x8208x2048.Idx → EReal := fun i =>
  ffn (tok m c (i 0) (i 1)) (fun k => gain m c (ix2 3 k)) (fun k f => wGate m c (ix3 3 k f)) (fun k f => wUp m c (ix3 3 k f))
    (fun f l => wDown m c (ix3 3 f l)) (i 2)

theorem mid_tok (R : Fin 16640) (b : Fin 2) (i : Fin 8208) (hR : R.val = b.val * 8320 + i.val) (c : Dev nD) :
    mid m c R = tok m c b i := by
  have hb : (⟨R.val / 8320, by omega⟩ : Fin 2) = b := Fin.ext (by dsimp only; omega)
  have hi : (⟨R.val % 8320, by omega⟩ : Fin 8208) = i := Fin.ext (by dsimp only; omega)
  have hr : R.val % 8320 < 8208 := by omega
  funext l
  unfold mid
  congr 1
  · funext k; rw [aH_apply m c R k hr, hb, hi]
  · funext k; rw [aA_apply m c R k hr, hb, hi]
  · funext k; rw [aB_apply m c R k hr, hb, hi]

theorem out_tok (c : Dev nD) (R : Fin 16640) (b : Fin 2) (i : Fin 8208) (hR : R.val = b.val * 8320 + i.val) (l : Fin 2048) :
    out m c (ix2 R l) = res m c (ix3 b i l) := by
  show ffn (mid m c R) (fun k => aN m c (ix2 0 k)) (fun k f => aG m c (ix3 3 k f)) (fun k f => aU m c (ix3 3 k f))
    (fun f l => aD m c (ix3 3 f l)) l = _
  rw [mid_tok m R b i hR c]
  show _ = ffn (tok m c b i) _ _ _ _ l
  congr 1
  funext k
  exact aN_apply m c k

set_option maxRecDepth 200000 in
theorem tail_eq (c : Dev nD) : Pipeline.afterTail₀ cfgs (dats m) 0 (V0 m) [hostOps1] c main_v20 = res m c := by
  funext j
  idx_vars j
  unfold Pipeline.afterTail₀
  after_reads_simp
  rw [show Pipeline.withArrays (cfgs 0).spec c (V0 m c) (fun w => (dats m 0 c).arrAt w (cfgs 0).N) (Proc.tc.devRef main_v18)
    = out m c from ((dats m 0 c).withArrays_arrAt sharedIn0 (V0 m c) (A_eq m c) 9).trans (final m c)]
  clean_types
  refine Eq.trans ?_ (out_tok m c ⟨j0.val * 8320 + j1.val, by omega⟩ j0 j1 rfl j2)
  generalize out m c = o
  pointwise

/-- The run: the result, and the arguments unchanged. -/
theorem run : θ_run defs (onTc (τ := τ) (main (F := Ideal))) ⟨m, fun _ => 0, ρ⟩ fun r => ∀ c : Dev nD,
      r.2.mem ((c.tc : Thread nD τ).loc main_v20) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨((h c).2 main_v20 (Pipeline.mem_restRefs_of main_v20 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c),
        ((h c).2 main_arg7 (Pipeline.mem_restRefs_of main_arg7 (by decide) (by decide))).trans (W_main_arg7 m (dats m) c)⟩)
    (run_main m ρ)

end Cert.MixFfnIdeal.Hand

namespace Cert.Proof.MixFfn

open Cert.RowMath

theorem frame_p : Cert.quiescent_MixFfn := fun m ρ _ => Cert.MixFfn.Gen.frame m ρ
theorem frame_pi : Cert.quiescent_MixFfnIdeal := fun m ρ _ => Cert.MixFfnIdeal.Gen.frame m ρ
theorem frame_ri : Cert.quiescent_MixFfnRefIdeal := fun m ρ _ =>
  (θ_run Cert.MixFfnRefIdeal.defs _ _).mono (fun r h => ⟨fun c => (h c).2,
      Idealize.ShloMosaic.sem_eq_zero_of_no_sems (by decide) r.2⟩)
    (Cert.MixFfnRefIdeal.Value.run (F := Ideal) m ρ)

theorem algebraic : Cert.algebraic_MixFfnIdeal_MixFfnRefIdeal := by
  intro m ρ m' ρ' _ hagree
  refine ⟨fun c => Cert.MixFfnIdeal.Hand.res m c, Cert.MixFfnIdeal.Hand.run m ρ, ?_⟩
  refine (θ_run Cert.MixFfnRefIdeal.defs _ _).mono (fun _ h c => ⟨(h c).1.trans ?_, (h c).2⟩)
    (Cert.MixFfnRefIdeal.Value.run (F := Ideal) m' ρ')
  obtain ⟨h0, h1, h2, h3, h4, h5, h6, h7⟩ := hagree c
  unfold Cert.MixFfnRefIdeal.Value.res_main_v31
  rw [h0, h1, h2, h3, h4, h5, h6, h7]
  funext j
  change Cert.MixFfnIdeal.S2x8208x2048.Idx at j
  idx_vars j
  clean_types
  pointwise [Cert.MixFfnIdeal.Hand.res]
  rfl

end Cert.Proof.MixFfn

end
-- ==== Proof.InProj.lean ====
/-
  The even layers' in-projection: its frames, and its value.

  A grid point is a tile of 640 rows and a tile of 1280 columns. The first point of a row tile puts the tile's norm into
  the scratch buffer, every point multiplies it by its columns of the weight.
-/
module

public import proofs.«01_k».proof.Defs
public import proofs.«01_k».proof.Proof.RowMath
public import proofs.«01_k».proof.Proof.Gen.InProj.Frame
public import proofs.«01_k».proof.Proof.Gen.InProjIdeal.Frame
public import proofs.«01_k».proof.Proof.Gen.InProjRefIdeal.Run
public import Idealize.ShloMosaic.Lib.Pointwise
public import Idealize.ShloMosaic.Lib.Pipeline.Value
public import Idealize.ShloMosaic.Lib.StableHlo.ReadAt
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open scoped BigOperators

namespace Cert.InProjIdeal.Hand

open Cert.InProjIdeal Cert.InProjIdeal.Gen Cert.RowMath

variable (m : (ℓ : Loc nD τ sig) → Buf (Elt Ideal) ℓ) (ρ : Dev nD → PrngReg)

theorem hz2 : (![0, 0] : Fin 2 → Nat) = fun _ => 0 := funext fun a => by fin_cases a <;> rfl

/-! ## One point of the grid -/

/-- The first point of a row tile. -/
theorem outs_first (c : Dev nD) (t : Fin cfg0.N) (h0 : t.val % 4 = 0) :
    outsAt0 m c t.val t.isLt = (k0_pay2 (k0_pay1 (iblk m c 0 t) (iblk m c 1 t)) (iblk m c 2 t),
      k0_pay1 (iblk m c 0 t) (iblk m c 1 t)) := by
  rw [outsAt0_A m c t h0]
  unfold out0_A_3 sout0_A_0
  rw [View.read_writes_eq_canon _ _ _ (cover0_A_3 _ _ _ _ _ _ _ _ _ _ _ _ _ _ _ _),
    View.read_writes_eq_canon _ _ _ (scover0_A_0 _ _ _ _ _ _ _ _ _ _ _ _ _ _ _ _)]
  unfold kernelRun0_A
  dsimp only
  sl_unfold_words
  rw [View.canon_unit_zero (S := S640x1280) hz2, View.canon_unit_zero (S := S640x2048) hz2]
  simp only [View.readCov_unit_zero (S := S640x2048) _ hz2, View.readAt_eq_ld, Memref.IsWhole.read_unread,
    View.ld_unit_zero (S := S640x2048) hz2, View.ld_unit_zero (S := S1x2048) hz2, View.ld_unit_zero (S := S2048x1280) hz2,
    shapeCast_self]

/-- A later point of a row tile. -/
theorem outs_next (c : Dev nD) (t : Fin cfg0.N) (h0 : ¬t.val % 4 = 0) :
    outsAt0 m c t.val t.isLt =
      (k0_pay2 (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h0]
  unfold out0_B_3 sout0_B_0
  rw [View.read_writes_eq_canon _ _ _ (cover0_B_3 _ _ _ _ _ _ _ _ _ _ _ _ _ _ _ _ _)]
  unfold kernelRun0_B
  dsimp only
  sl_unfold_words
  rw [View.canon_unit_zero (S := S640x1280) hz2]
  simp only [View.readAt_eq_ld, Memref.IsWhole.read_unread, View.ld_unit_zero (S := S640x2048) hz2,
    View.ld_unit_zero (S := S2048x1280) hz2, shapeCast_self]
  exact congrArg (fun z => (k0_pay2 z _, _)) (Memref.IsWhole.read_unread _ _)

/-- The norm of the loaded rows. -/
theorem pay1_apply (v8 : Vec Ideal S640x2048 .f32) (v10 : Vec Ideal S1x2048 .f32) (r : Fin 640) (l : Fin 2048) :
    k0_pay1 v8 v10 (ix2 r l) = rms (fun k => v8 (ix2 r k)) (fun k => v10 (ix2 0 k)) l := by
  pointwise [k0_pay1]
  rfl

/-- Its product with the loaded columns. -/
theorem pay2_apply (v3 : Vec Ideal S640x2048 .bf16) (v4 : Vec Ideal S2048x1280 .bf16) (r : Fin 640) (l : Fin 1280) :
    k0_pay2 v3 v4 (ix2 r l) = ∑ k : Fin 2048, v3 (ix2 r k) * v4 (ix2 k l) := by
  pointwise [k0_pay2]

/-! ## The blocks as rows and columns of the arrays -/

abbrev aH (c : Dev nD) : S16640x2048.Idx → EReal := V m c main_v2
abbrev aN (c : Dev nD) : S1x2048.Idx → EReal := V m c main_v8
abbrev aW (c : Dev nD) : S2048x5120.Idx → EReal := V m c main_v7

theorem index_all : ∀ t : Fin grid0.N, (win0_0.index t 0 = t.val / 4 ∧ win0_0.index t 1 = 0)
    ∧ (win0_2.index t 0 = 0 ∧ win0_2.index t 1 = t.val % 4) ∧ (win0_3.index t 0 = t.val / 4 ∧ win0_3.index t 1 = t.val % 4) := by
  decide +kernel

section Blocks

variable (c : Dev nD) (t : Fin cfg0.N)

theorem blkH (r : Fin 640) (R : Fin 16640) (hR : R.val = t.val / 4 * 640 + r.val) (l : Fin 2048) :
    (iblk m c 0 t (ix2 r l) : EReal) = aH m c (ix2 R l) := by
  refine congrArg (aH m c) (?_ : (win0_0.rect t).emb (ix2 r l) = _)
  refine Shape.idx_ext₂ ?_ (win0_0.rect_emb_val_of_index_zero t 1 (index_all t).1.2 _)
  rw [Pipeline.Window.rect_emb_val win0_0 t _ 0 rfl, (index_all t).1.1]
  exact hR.symm

theorem blkN (l : Fin 2048) : (iblk m c 1 t (ix2 0 l) : EReal) = aN m c (ix2 0 l) := by
  refine congrArg (aN m c) (?_ : (win0_1.rect t).emb (ix2 0 l) = _)
  exact Shape.idx_ext₂ (win0_1.rect_emb_val_of_index_zero t 0 rfl _) (win0_1.rect_emb_val_of_index_zero t 1 rfl _)

theorem blkW (l : Fin 1280) (L : Fin 5120) (hL : L.val = t.val % 4 * 1280 + l.val) (k : Fin 2048) :
    (iblk m c 2 t (ix2 k l) : EReal) = aW m c (ix2 k L) := by
  refine congrArg (aW m c) (?_ : (win0_2.rect t).emb (ix2 k l) = _)
  refine Shape.idx_ext₂ (win0_2.rect_emb_val_of_index_zero t 0 (index_all t).2.1.1 _) ?_
  rw [Pipeline.Window.rect_emb_val win0_2 t _ 1 rfl, (index_all t).2.1.2]
  exact hL.symm

end Blocks

/-! ## Point after point -/

/-- The norm of row `R`. -/
def normed (c : Dev nD) (R : Fin 16640) : Fin 2048 → EReal := rms (fun k => aH m c (ix2 R k)) (fun k => aN m c (ix2 0 k))

/-- Its product with the weight. -/
def out (c : Dev nD) : S16640x5120.Idx → EReal := fun i => ∑ k, normed m c (i 0) k * aW m c (ix2 k (i 1))

theorem first_norm (c : Dev nD) (t : Fin cfg0.N) (r : Fin 640) (R : Fin 16640) (hR : R.val = t.val / 4 * 640 + r.val)
    (l : Fin 2048) : k0_pay1 (iblk m c 0 t) (iblk m c 1 t) (ix2 r l) = normed m c R l :=
  (pay1_apply _ _ r l).trans (rms_congr (blkH m c t r R hR) (blkN m c t) l)

theorem cols_apply (c : Dev nD) (t : Fin cfg0.N) (v3 : Vec Ideal S640x2048 .bf16) (r : Fin 640) (R : Fin 16640)
    (h3 : ∀ k, (v3 (ix2 r k) : EReal) = normed m c R k) (l : Fin 1280) (L : Fin 5120)
    (hL : L.val = t.val % 4 * 1280 + l.val) : k0_pay2 v3 (iblk m c 2 t) (ix2 r l) = out m c (ix2 R L) :=
  (pay2_apply _ _ r l).trans (Finset.sum_congr rfl fun k _ => congrArg₂ (· * ·) (h3 k) (blkW m c t l L hL k))

/-- After every point the scratch buffer holds the norm of the row tile. -/
theorem scratch_eq (c : Dev nD) (n : Nat) : ∀ (hn : n < cfg0.N) (r : Fin 640) (R : Fin 16640)
    (_ : R.val = n / 4 * 640 + r.val) (l : Fin 2048), ((outsAt0 m c n hn).2 (ix2 r l) : EReal) = normed m c R l := by
  induction n with
  | zero =>
    intro hn r R hR l
    exact (congrArg (fun p => p.2 (ix2 r l)) (outs_first m c ⟨0, hn⟩ rfl)).trans (first_norm m c ⟨0, hn⟩ r R hR l)
  | succ n ih =>
    intro hn r R hR l
    by_cases h0 : (n + 1) % 4 = 0
    · exact (congrArg (fun p => p.2 (ix2 r l)) (outs_first m c ⟨n + 1, hn⟩ h0)).trans (first_norm m c ⟨n + 1, hn⟩ r R hR l)
    · exact (congrArg (fun p => p.2 (ix2 r l)) (outs_next m c ⟨n + 1, hn⟩ h0)).trans
        (ih (Nat.lt_of_succ_lt hn) r R (by omega) l)

/-- After every point the output block is its rows' norms times its columns. -/
theorem block_eq (c : Dev nD) (t : Fin cfg0.N) (r : Fin 640) (R : Fin 16640) (hR : R.val = t.val / 4 * 640 + r.val)
    (l : Fin 1280) (L : Fin 5120) (hL : L.val = t.val % 4 * 1280 + l.val) :
    ((outsAt0 m c t.val t.isLt).1 (ix2 r l) : EReal) = out m c (ix2 R L) := by
  by_cases h0 : t.val % 4 = 0
  · exact (congrArg (fun p => p.1 (ix2 r l)) (outs_first m c t h0)).trans
      (cols_apply m c t _ r R (first_norm m c t r R hR) l L hL)
  · exact (congrArg (fun p => p.1 (ix2 r l)) (outs_next m c t h0)).trans
      (cols_apply m c t _ r R (scratch_eq m c _ _ r R (by omega)) l L hL)

/-! ## The output array -/

theorem flushed_eq (c : Dev nD) (t : Fin cfg0.N) :
    (dats m 0 c).flushed 3 t = (win0_3.blk t).view.read (Elt Ideal) (out m c) := by
  show (cfg0.win 3).cut (grid0.coords t) ((dats m 0 c).after 3 t) = _
  rw [after0_3]
  funext y
  show (outsAt0 m c t.val t.isLt).1 y = out m c ((win0_3.rect t).emb y)
  obtain ⟨r, l, rfl⟩ : ∃ (r : Fin 640) (l : Fin 1280), y = ix2 r l := ⟨y 0, y 1, Shape.idx_ext₂ rfl rfl⟩
  have ht : t.val < 104 := lt_of_lt_of_eq t.isLt N_0
  have e : (win0_3.rect t).emb (ix2 r l)
      = ix2 (⟨t.val / 4 * 640 + r.val, by omega⟩ : Fin 16640) (⟨t.val % 4 * 1280 + l.val, by omega⟩ : Fin 5120) := by
    refine Shape.idx_ext₂ ?_ ?_
    · rw [Pipeline.Window.rect_emb_val win0_3 t _ 0 rfl, (index_all t).2.2.1]
      rfl
    · rw [Pipeline.Window.rect_emb_val win0_3 t _ 1 rfl, (index_all t).2.2.2]
      rfl
  exact (block_eq m c t r ⟨t.val / 4 * 640 + r.val, by omega⟩ rfl l ⟨t.val % 4 * 1280 + l.val, by omega⟩ rfl).trans
    (congrArg (out m c) e).symm

theorem cover (i : S16640x5120.Idx) :
    ∃ t : Fin cfg0.N, (cfg0.win 3).flush t = true ∧ i ∈ ((cfg0.win 3).blk t).view.set := by
  have h0 : (i 0 : Nat) < 16640 := (i 0).isLt
  have h1 : (i 1 : Nat) < 5120 := (i 1).isLt
  have hN : cfg0.N = 104 := N_0
  refine ⟨⟨(i 0 : Nat) / 640 * 4 + (i 1 : Nat) / 1280, by omega⟩, flush0_3 _, ?_⟩
  refine (Finset.ext_iff.mp (View.set_slice_whole main_v9 (win0_3.rect _)) i).mpr ?_
  rw [Rect.mem_set_unit]
  intro a
  match a with
  | ⟨0, _⟩ =>
    show win0_3.index _ 0 * 640 ≤ (i 0 : Nat) ∧ (i 0 : Nat) < win0_3.index _ 0 * 640 + 640
    rw [(index_all _).2.2.1]; dsimp only; omega
  | ⟨1, _⟩ =>
    show win0_3.index _ 1 * 1280 ≤ (i 1 : Nat) ∧ (i 1 : Nat) < win0_3.index _ 1 * 1280 + 1280
    rw [(index_all _).2.2.2]; dsimp only; omega

theorem final (c : Dev nD) : (dats m 0 c).arrAt 3 cfg0.N = out m c :=
  (dats m 0 c).arrAt_eq_of_cover 3 (out m c) (fun t _ => flushed_eq m c t) cover

/-! ## The result of the run -/

/-- The arguments, as device `c` is given them. -/
abbrev h (c : Dev nD) : S2x8208x2048.Idx → EReal := m ((c.tc : Thread nD τ).loc main_arg0)
abbrev gain (c : Dev nD) : S4x2048.Idx → EReal := m ((c.tc : Thread nD τ).loc main_arg1)
abbrev w (c : Dev nD) : S2x2048x5120.Idx → EReal := m ((c.tc : Thread nD τ).loc main_arg2)

theorem aH_apply (c : Dev nD) (R : Fin 16640) (l : Fin 2048) (hr : R.val % 8320 < 8208) :
    aH m c (ix2 R l) = h m c (ix3 ⟨R.val / 8320, by omega⟩ ⟨R.val % 8320, hr⟩ l) := by
  unfold aH V V0
  after_reads_at
  rw [dif_pos hr]
  after_reads_simp

theorem aN_apply (c : Dev nD) (l : Fin 2048) : aN m c (ix2 0 l) = gain m c (ix2 0 l) := by
  unfold aN V V0
  after_reads_at

theorem aW_apply (c : Dev nD) (k : Fin 2048) (l : Fin 5120) : aW m c (ix2 k l) = w m c (ix3 0 k l) := by
  unfold aW V V0
  after_reads_at

/-- The result over the batches. -/
def res (c : Dev nD) : S2x8208x5120.Idx → EReal := fun i =>
  ∑ k, rms (fun k => h m c (ix3 (i 0) (i 1) k)) (fun k => gain m c (ix2 0 k)) k * w m c (ix3 0 k (i 2))

theorem out_tok (c : Dev nD) (R : Fin 16640) (b : Fin 2) (i : Fin 8208) (hR : R.val = b.val * 8320 + i.val) (l : Fin 5120) :
    out m c (ix2 R l) = res m c (ix3 b i l) := by
  have hb : (⟨R.val / 8320, by omega⟩ : Fin 2) = b := Fin.ext (by dsimp only; omega)
  have hi : (⟨R.val % 8320, by omega⟩ : Fin 8208) = i := Fin.ext (by dsimp only; omega)
  have hr : R.val % 8320 < 8208 := by omega
  refine Finset.sum_congr rfl fun k _ => congrArg₂ (· * ·) (rms_congr (fun k => ?_) (fun k => aN_apply m c k) k) (aW_apply m c k l)
  refine (aH_apply m c R k hr).trans ?_
  rw [hb, hi]
  rfl

set_option maxRecDepth 200000 in
theorem tail_eq (c : Dev nD) : Pipeline.afterTail₀ cfgs (dats m) 0 (V0 m) [hostOps1] c main_v11 = res m c := by
  funext j
  idx_vars j
  unfold Pipeline.afterTail₀
  after_reads_simp
  rw [show Pipeline.withArrays (cfgs 0).spec c (V0 m c) (fun w => (dats m 0 c).arrAt w (cfgs 0).N) (Proc.tc.devRef main_v9)
    = out m c from (Pipeline.withArrays_arr spec0 (by decide) c _ _ 3).trans (final m c)]
  clean_types
  refine Eq.trans ?_ (out_tok m c ⟨j0.val * 8320 + j1.val, by omega⟩ j0 j1 rfl j2)
  generalize out m c = o
  pointwise

/-- The run: the result, and the arguments unchanged. -/
theorem run : θ_run defs (onTc (τ := τ) (main (F := Ideal))) ⟨m, fun _ => 0, ρ⟩ fun r => ∀ c : Dev nD,
      r.2.mem ((c.tc : Thread nD τ).loc main_v11) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v11 (Pipeline.mem_restRefs_of main_v11 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.InProjIdeal.Hand

namespace Cert.Proof.InProj

open Cert.RowMath

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

theorem algebraic : Cert.algebraic_InProjIdeal_InProjRefIdeal := by
  intro m ρ m' ρ' _ hagree
  refine ⟨fun c => Cert.InProjIdeal.Hand.res m c, Cert.InProjIdeal.Hand.run m ρ, ?_⟩
  refine (θ_run Cert.InProjRefIdeal.defs _ _).mono (fun _ h c => ⟨(h c).1.trans ?_, (h c).2⟩)
    (Cert.InProjRefIdeal.Value.run (F := Ideal) m' ρ')
  obtain ⟨h0, h1, h2⟩ := hagree c
  rw [h0, h1, h2]
  funext j
  change Cert.InProjIdeal.S2x8208x5120.Idx at j
  idx_vars j
  clean_types
  pointwise [Cert.InProjIdeal.Hand.res]
  rfl

end Cert.Proof.InProj

end
-- ==== Proof.OddInS5.lean ====
/-
  The odd layers' in-projection, its columns of the S5 branch: its frames, and its value.

  These are the first 1024 columns of the packed weight, in which the packing changes nothing. A grid point is a tile of
  640 rows: its norm goes through the scratch buffer and is multiplied by the whole of these columns.
-/
module

public import proofs.«01_k».proof.Defs
public import proofs.«01_k».proof.Proof.RowMath
public import proofs.«01_k».proof.Proof.Gen.OddInS5.Frame
public import proofs.«01_k».proof.Proof.Gen.OddInS5Ideal.Frame
public import proofs.«01_k».proof.Proof.Gen.OddInS5RefIdeal.Run
public import Idealize.ShloMosaic.Lib.Pointwise
public import Idealize.ShloMosaic.Lib.Pipeline.Value
public import Idealize.ShloMosaic.Lib.StableHlo.ReadAt
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open scoped BigOperators

namespace Cert.OddInS5Ideal.Hand

open Cert.OddInS5Ideal Cert.OddInS5Ideal.Gen Cert.RowMath

variable (m : (ℓ : Loc nD τ sig) → Buf (Elt Ideal) ℓ) (ρ : Dev nD → PrngReg)

theorem hz2 : (![0, 0] : Fin 2 → Nat) = fun _ => 0 := funext fun a => by fin_cases a <;> rfl

/-! ## One point of the grid -/

theorem outs_eq (c : Dev nD) (t : Fin cfg0.N) :
    outsAt0 m c t = k0_pay2 (k0_pay1 (iblk m c 0 t) (iblk m c 1 t)) (iblk m c 2 t) := by
  unfold outsAt0 out0_A_3
  rw [View.read_writes_eq_canon _ _ _ (cover0_A_3 _ _ _ _ _ _ _ _ _ _ _ _ _ _ _ _)]
  unfold kernelRun0_A
  dsimp only
  sl_unfold_words
  rw [View.canon_unit_zero (S := S640x1024) hz2]
  simp only [View.readCov_unit_zero (S := S640x2048) _ hz2, View.readAt_eq_ld, Memref.IsWhole.read_unread,
    View.ld_unit_zero (S := S640x2048) hz2, View.ld_unit_zero (S := S1x2048) hz2, View.ld_unit_zero (S := S2048x1024) hz2,
    shapeCast_self]

/-- The norm of the loaded rows. -/
theorem pay1_apply (v8 : Vec Ideal S640x2048 .f32) (v10 : Vec Ideal S1x2048 .f32) (r : Fin 640) (l : Fin 2048) :
    k0_pay1 v8 v10 (ix2 r l) = rms (fun k => v8 (ix2 r k)) (fun k => v10 (ix2 0 k)) l := by
  pointwise [k0_pay1]
  rfl

/-- Its product with the loaded columns. -/
theorem pay2_apply (v3 : Vec Ideal S640x2048 .bf16) (v4 : Vec Ideal S2048x1024 .bf16) (r : Fin 640) (l : Fin 1024) :
    k0_pay2 v3 v4 (ix2 r l) = ∑ k : Fin 2048, v3 (ix2 r k) * v4 (ix2 k l) := by
  pointwise [k0_pay2]

/-! ## The blocks as rows and columns of the arrays -/

abbrev aH (c : Dev nD) : S16640x2048.Idx → EReal := V m c main_v12
abbrev aN (c : Dev nD) : S1x2048.Idx → EReal := V m c main_v16
abbrev aW (c : Dev nD) : S2048x1024.Idx → EReal := V m c main_v15

theorem index_all : ∀ t : Fin grid0.N, (win0_0.index t 0 = t.val ∧ win0_0.index t 1 = 0)
    ∧ (win0_2.index t 0 = 0 ∧ win0_2.index t 1 = 0) ∧ (win0_3.index t 0 = t.val ∧ win0_3.index t 1 = 0) := by
  decide +kernel

section Blocks

variable (c : Dev nD) (t : Fin cfg0.N)

theorem blkH (r : Fin 640) (R : Fin 16640) (hR : R.val = t.val * 640 + r.val) (l : Fin 2048) :
    (iblk m c 0 t (ix2 r l) : EReal) = aH m c (ix2 R l) := by
  refine congrArg (aH m c) (?_ : (win0_0.rect t).emb (ix2 r l) = _)
  refine Shape.idx_ext₂ ?_ (win0_0.rect_emb_val_of_index_zero t 1 (index_all t).1.2 _)
  rw [Pipeline.Window.rect_emb_val win0_0 t _ 0 rfl, (index_all t).1.1]
  exact hR.symm

theorem blkN (l : Fin 2048) : (iblk m c 1 t (ix2 0 l) : EReal) = aN m c (ix2 0 l) := by
  refine congrArg (aN m c) (?_ : (win0_1.rect t).emb (ix2 0 l) = _)
  exact Shape.idx_ext₂ (win0_1.rect_emb_val_of_index_zero t 0 rfl _) (win0_1.rect_emb_val_of_index_zero t 1 rfl _)

theorem blkW (k : Fin 2048) (l : Fin 1024) : (iblk m c 2 t (ix2 k l) : EReal) = aW m c (ix2 k l) := by
  refine congrArg (aW m c) (?_ : (win0_2.rect t).emb (ix2 k l) = _)
  exact Shape.idx_ext₂ (win0_2.rect_emb_val_of_index_zero t 0 (index_all t).2.1.1 _)
    (win0_2.rect_emb_val_of_index_zero t 1 (index_all t).2.1.2 _)

end Blocks

/-! ## The output array -/

/-- The rows' norms times the weight. -/
def out (c : Dev nD) : S16640x1024.Idx → EReal := fun i =>
  proj (fun k => aH m c (ix2 (i 0) k)) (fun k => aN m c (ix2 0 k)) (fun k => aW m c (ix2 k (i 1)))

theorem block_eq (c : Dev nD) (t : Fin cfg0.N) (r : Fin 640) (R : Fin 16640) (hR : R.val = t.val * 640 + r.val)
    (l : Fin 1024) : (outsAt0 m c t (ix2 r l) : EReal) = out m c (ix2 R l) :=
  (congrFun (outs_eq m c t) _).trans ((pay2_apply _ _ r l).trans (Finset.sum_congr rfl fun k _ => congrArg₂ (· * ·)
    ((pay1_apply _ _ r k).trans (rms_congr (blkH m c t r R hR) (blkN m c t) k)) (blkW m c t k l)))

theorem flushed_eq (c : Dev nD) (t : Fin cfg0.N) :
    (dats m 0 c).flushed 3 t = (win0_3.blk t).view.read (Elt Ideal) (out m c) := by
  show (cfg0.win 3).cut (grid0.coords t) ((dats m 0 c).after 3 t) = _
  rw [after0_3]
  funext y
  show outsAt0 m c t y = out m c ((win0_3.rect t).emb y)
  obtain ⟨r, l, rfl⟩ : ∃ (r : Fin 640) (l : Fin 1024), y = ix2 r l := ⟨y 0, y 1, Shape.idx_ext₂ rfl rfl⟩
  have ht : t.val < 26 := lt_of_lt_of_eq t.isLt N_0
  have e : (win0_3.rect t).emb (ix2 r l) = ix2 (⟨t.val * 640 + r.val, by omega⟩ : Fin 16640) l := by
    refine Shape.idx_ext₂ ?_ (win0_3.rect_emb_val_of_index_zero t 1 (index_all t).2.2.2 _)
    rw [Pipeline.Window.rect_emb_val win0_3 t _ 0 rfl, (index_all t).2.2.1]
    rfl
  exact (block_eq m c t r ⟨t.val * 640 + r.val, by omega⟩ rfl l).trans (congrArg (out m c) e).symm

theorem cover (i : S16640x1024.Idx) :
    ∃ t : Fin cfg0.N, (cfg0.win 3).flush t = true ∧ i ∈ ((cfg0.win 3).blk t).view.set := by
  have h0 : (i 0 : Nat) < 16640 := (i 0).isLt
  have h1 : (i 1 : Nat) < 1024 := (i 1).isLt
  have hN : cfg0.N = 26 := N_0
  refine ⟨⟨(i 0 : Nat) / 640, by omega⟩, flush0_3 _, ?_⟩
  refine (Finset.ext_iff.mp (View.set_slice_whole main_v17 (win0_3.rect _)) i).mpr ?_
  rw [Rect.mem_set_unit]
  intro a
  match a with
  | ⟨0, _⟩ =>
    show win0_3.index _ 0 * 640 ≤ (i 0 : Nat) ∧ (i 0 : Nat) < win0_3.index _ 0 * 640 + 640
    rw [(index_all _).2.2.1]; dsimp only; omega
  | ⟨1, _⟩ =>
    show win0_3.index _ 1 * 1024 ≤ (i 1 : Nat) ∧ (i 1 : Nat) < win0_3.index _ 1 * 1024 + 1024
    rw [(index_all _).2.2.2]; omega

theorem final (c : Dev nD) : (dats m 0 c).arrAt 3 cfg0.N = out m c :=
  (dats m 0 c).arrAt_eq_of_cover 3 (out m c) (fun t _ => flushed_eq m c t) cover

/-! ## The result of the run -/

/-- The arguments, as device `c` is given them. -/
abbrev h (c : Dev nD) : S2x8208x2048.Idx → EReal := m ((c.tc : Thread nD τ).loc main_arg0)
abbrev gain (c : Dev nD) : S4x2048.Idx → EReal := m ((c.tc : Thread nD τ).loc main_arg1)
abbrev w (c : Dev nD) : S2x2048x4544.Idx → EReal := m ((c.tc : Thread nD τ).loc main_arg2)

theorem aH_apply (c : Dev nD) (R : Fin 16640) (l : Fin 2048) (hr : R.val % 8320 < 8208) :
    aH m c (ix2 R l) = h m c (ix3 ⟨R.val / 8320, by omega⟩ ⟨R.val % 8320, hr⟩ l) := by
  unfold aH V V0
  after_reads_at
  rw [dif_pos hr]
  after_reads_simp

theorem aN_apply (c : Dev nD) (l : Fin 2048) : aN m c (ix2 0 l) = gain m c (ix2 1 l) := by
  unfold aN V V0
  after_reads_at

theorem aW_apply (c : Dev nD) (k : Fin 2048) (l : Fin 1024) : aW m c (ix2 k l) = w m c (ix3 0 k ⟨l.val, by omega⟩) := by
  unfold aW V V0
  after_reads_at
  rw [dif_pos (by omega)]
  after_reads_at

/-- The result over the batches. -/
def res (c : Dev nD) : S2x8208x1024.Idx → EReal := fun i =>
  proj (fun k => h m c (ix3 (i 0) (i 1) k)) (fun k => gain m c (ix2 1 k))
    (fun k => w m c (ix3 0 k ⟨(i 2).val, Nat.lt_trans (i 2).isLt (by decide : 1024 < 4544)⟩))

theorem out_tok (c : Dev nD) (R : Fin 16640) (b : Fin 2) (i : Fin 8208) (hR : R.val = b.val * 8320 + i.val) (l : Fin 1024) :
    out m c (ix2 R l) = res m c (ix3 b i l) := by
  have hb : (⟨R.val / 8320, by omega⟩ : Fin 2) = b := Fin.ext (by dsimp only; omega)
  have hi : (⟨R.val % 8320, by omega⟩ : Fin 8208) = i := Fin.ext (by dsimp only; omega)
  have hr : R.val % 8320 < 8208 := by omega
  refine proj_congr (fun k => ?_) (fun k => aN_apply m c k) (fun k => aW_apply m c k l)
  refine (aH_apply m c R k hr).trans ?_
  rw [hb, hi]
  rfl

set_option maxRecDepth 200000 in
theorem tail_eq (c : Dev nD) : Pipeline.afterTail₀ cfgs (dats m) 0 (V0 m) [hostOps1] c main_v19 = res m c := by
  funext j
  idx_vars j
  unfold Pipeline.afterTail₀
  after_reads_simp
  rw [show Pipeline.withArrays (cfgs 0).spec c (V0 m c) (fun w => (dats m 0 c).arrAt w (cfgs 0).N) (Proc.tc.devRef main_v17)
    = out m c from (Pipeline.withArrays_arr spec0 (by decide) c _ _ 3).trans (final m c)]
  clean_types
  refine Eq.trans ?_ (out_tok m c ⟨j0.val * 8320 + j1.val, by omega⟩ j0 j1 rfl j2)
  generalize out m c = o
  pointwise

/-- The run: the result, and the arguments unchanged. -/
theorem run : θ_run defs (onTc (τ := τ) (main (F := Ideal))) ⟨m, fun _ => 0, ρ⟩ fun r => ∀ c : Dev nD,
      r.2.mem ((c.tc : Thread nD τ).loc main_v19) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v19 (Pipeline.mem_restRefs_of main_v19 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.OddInS5Ideal.Hand

namespace Cert.Proof.OddInS5

open Cert.RowMath

theorem frame_p : Cert.quiescent_OddInS5 := fun m ρ _ => Cert.OddInS5.Gen.frame m ρ
theorem frame_pi : Cert.quiescent_OddInS5Ideal := fun m ρ _ => Cert.OddInS5Ideal.Gen.frame m ρ
theorem frame_ri : Cert.quiescent_OddInS5RefIdeal := fun m ρ _ =>
  (θ_run Cert.OddInS5RefIdeal.defs _ _).mono (fun r h => ⟨fun c => (h c).2,
      Idealize.ShloMosaic.sem_eq_zero_of_no_sems (by decide) r.2⟩)
    (Cert.OddInS5RefIdeal.Value.run (F := Ideal) m ρ)

theorem algebraic : Cert.algebraic_OddInS5Ideal_OddInS5RefIdeal := by
  intro m ρ m' ρ' _ hagree
  refine ⟨fun c => Cert.OddInS5Ideal.Hand.res m c, Cert.OddInS5Ideal.Hand.run m ρ, ?_⟩
  refine (θ_run Cert.OddInS5RefIdeal.defs _ _).mono (fun _ h c => ⟨(h c).1.trans ?_, (h c).2⟩)
    (Cert.OddInS5RefIdeal.Value.run (F := Ideal) m' ρ')
  obtain ⟨h0, h1, h2⟩ := hagree c
  rw [h0, h1, h2]
  funext j
  change Cert.OddInS5Ideal.S2x8208x1024.Idx at j
  idx_vars j
  clean_types
  pointwise [Cert.OddInS5Ideal.Hand.res]
  rfl

end Cert.Proof.OddInS5

end
-- ==== Proof.OddInRw.lean ====
/-
  The odd layers' in-projection, its columns of the RWKV branch: its frames, and its value.

  The weight is packed first: the columns of each of the two small low-rank inputs are padded from 96 to 128, so that
  result column `l` is the packed column `col l`. A grid point is a tile of 640 rows and half of the 3584 packed columns;
  the first point of a row tile puts the tile's norm into the scratch buffer, both multiply it by their columns.
-/
module

public import proofs.«01_k».proof.Defs
public import proofs.«01_k».proof.Proof.RowMath
public import proofs.«01_k».proof.Proof.Gen.OddInRw.Frame
public import proofs.«01_k».proof.Proof.Gen.OddInRwIdeal.Frame
public import proofs.«01_k».proof.Proof.Gen.OddInRwRefIdeal.Run
public import Idealize.ShloMosaic.Lib.Pointwise
public import Idealize.ShloMosaic.Lib.Pipeline.Value
public import Idealize.ShloMosaic.Lib.StableHlo.ReadAt
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open scoped BigOperators

namespace Cert.OddInRwIdeal.Hand

open Cert.OddInRwIdeal Cert.OddInRwIdeal.Gen Cert.RowMath

variable (m : (ℓ : Loc nD τ sig) → Buf (Elt Ideal) ℓ) (ρ : Dev nD → PrngReg)

theorem hz2 : (![0, 0] : Fin 2 → Nat) = fun _ => 0 := funext fun a => by fin_cases a <;> rfl

/-! ## One point of the grid -/

/-- The first point of a row tile. -/
theorem outs_first (c : Dev nD) (t : Fin cfg0.N) (h0 : t.val % 2 = 0) :
    outsAt0 m c t.val t.isLt = (k0_pay2 (k0_pay1 (iblk m c 0 t) (iblk m c 1 t)) (iblk m c 2 t),
      k0_pay1 (iblk m c 0 t) (iblk m c 1 t)) := by
  rw [outsAt0_A m c t h0]
  unfold out0_A_3 sout0_A_0
  rw [View.read_writes_eq_canon _ _ _ (cover0_A_3 _ _ _ _ _ _ _ _ _ _ _ _ _ _ _ _),
    View.read_writes_eq_canon _ _ _ (scover0_A_0 _ _ _ _ _ _ _ _ _ _ _ _ _ _ _ _)]
  unfold kernelRun0_A
  dsimp only
  sl_unfold_words
  rw [View.canon_unit_zero (S := S640x1792) hz2, View.canon_unit_zero (S := S640x2048) hz2]
  simp only [View.readCov_unit_zero (S := S640x2048) _ hz2, View.readAt_eq_ld, Memref.IsWhole.read_unread,
    View.ld_unit_zero (S := S640x2048) hz2, View.ld_unit_zero (S := S1x2048) hz2, View.ld_unit_zero (S := S2048x1792) hz2,
    shapeCast_self]

/-- A later point of a row tile. -/
theorem outs_next (c : Dev nD) (t : Fin cfg0.N) (h0 : ¬t.val % 2 = 0) :
    outsAt0 m c t.val t.isLt =
      (k0_pay2 (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h0]
  unfold out0_B_3 sout0_B_0
  rw [View.read_writes_eq_canon _ _ _ (cover0_B_3 _ _ _ _ _ _ _ _ _ _ _ _ _ _ _ _ _)]
  unfold kernelRun0_B
  dsimp only
  sl_unfold_words
  rw [View.canon_unit_zero (S := S640x1792) hz2]
  simp only [View.readAt_eq_ld, Memref.IsWhole.read_unread, View.ld_unit_zero (S := S640x2048) hz2,
    View.ld_unit_zero (S := S2048x1792) hz2, shapeCast_self]
  exact congrArg (fun z => (k0_pay2 z _, _)) (Memref.IsWhole.read_unread _ _)

/-- The norm of the loaded rows. -/
theorem pay1_apply (v8 : Vec Ideal S640x2048 .f32) (v10 : Vec Ideal S1x2048 .f32) (r : Fin 640) (l : Fin 2048) :
    k0_pay1 v8 v10 (ix2 r l) = rms (fun k => v8 (ix2 r k)) (fun k => v10 (ix2 0 k)) l := by
  pointwise [k0_pay1]
  rfl

/-- Its product with the loaded columns. -/
theorem pay2_apply (v3 : Vec Ideal S640x2048 .bf16) (v4 : Vec Ideal S2048x1792 .bf16) (r : Fin 640) (l : Fin 1792) :
    k0_pay2 v3 v4 (ix2 r l) = ∑ k : Fin 2048, v3 (ix2 r k) * v4 (ix2 k l) := by
  pointwise [k0_pay2]

/-! ## The blocks as rows and columns of the arrays -/

abbrev aH (c : Dev nD) : S16640x2048.Idx → EReal := V m c main_v12
abbrev aN (c : Dev nD) : S1x2048.Idx → EReal := V m c main_v16
abbrev aW (c : Dev nD) : S2048x3584.Idx → EReal := V m c main_v15

theorem index_all : ∀ t : Fin grid0.N, (win0_0.index t 0 = t.val / 2 ∧ win0_0.index t 1 = 0)
    ∧ (win0_2.index t 0 = 0 ∧ win0_2.index t 1 = t.val % 2) ∧ (win0_3.index t 0 = t.val / 2 ∧ win0_3.index t 1 = t.val % 2) := by
  decide +kernel

section Blocks

variable (c : Dev nD) (t : Fin cfg0.N)

theorem blkH (r : Fin 640) (R : Fin 16640) (hR : R.val = t.val / 2 * 640 + r.val) (l : Fin 2048) :
    (iblk m c 0 t (ix2 r l) : EReal) = aH m c (ix2 R l) := by
  refine congrArg (aH m c) (?_ : (win0_0.rect t).emb (ix2 r l) = _)
  refine Shape.idx_ext₂ ?_ (win0_0.rect_emb_val_of_index_zero t 1 (index_all t).1.2 _)
  rw [Pipeline.Window.rect_emb_val win0_0 t _ 0 rfl, (index_all t).1.1]
  exact hR.symm

theorem blkN (l : Fin 2048) : (iblk m c 1 t (ix2 0 l) : EReal) = aN m c (ix2 0 l) := by
  refine congrArg (aN m c) (?_ : (win0_1.rect t).emb (ix2 0 l) = _)
  exact Shape.idx_ext₂ (win0_1.rect_emb_val_of_index_zero t 0 rfl _) (win0_1.rect_emb_val_of_index_zero t 1 rfl _)

theorem blkW (l : Fin 1792) (L : Fin 3584) (hL : L.val = t.val % 2 * 1792 + l.val) (k : Fin 2048) :
    (iblk m c 2 t (ix2 k l) : EReal) = aW m c (ix2 k L) := by
  refine congrArg (aW m c) (?_ : (win0_2.rect t).emb (ix2 k l) = _)
  refine Shape.idx_ext₂ (win0_2.rect_emb_val_of_index_zero t 0 (index_all t).2.1.1 _) ?_
  rw [Pipeline.Window.rect_emb_val win0_2 t _ 1 rfl, (index_all t).2.1.2]
  exact hL.symm

end Blocks

/-! ## Point after point -/

/-- The norm of row `R`. -/
def normed (c : Dev nD) (R : Fin 16640) : Fin 2048 → EReal := rms (fun k => aH m c (ix2 R k)) (fun k => aN m c (ix2 0 k))

/-- Its product with the weight. -/
def out (c : Dev nD) : S16640x3584.Idx → EReal := fun i =>
  proj (fun k => aH m c (ix2 (i 0) k)) (fun k => aN m c (ix2 0 k)) (fun k => aW m c (ix2 k (i 1)))

theorem first_norm (c : Dev nD) (t : Fin cfg0.N) (r : Fin 640) (R : Fin 16640) (hR : R.val = t.val / 2 * 640 + r.val)
    (l : Fin 2048) : k0_pay1 (iblk m c 0 t) (iblk m c 1 t) (ix2 r l) = normed m c R l :=
  (pay1_apply _ _ r l).trans (rms_congr (blkH m c t r R hR) (blkN m c t) l)

theorem cols_apply (c : Dev nD) (t : Fin cfg0.N) (v3 : Vec Ideal S640x2048 .bf16) (r : Fin 640) (R : Fin 16640)
    (h3 : ∀ k, (v3 (ix2 r k) : EReal) = normed m c R k) (l : Fin 1792) (L : Fin 3584)
    (hL : L.val = t.val % 2 * 1792 + l.val) : k0_pay2 v3 (iblk m c 2 t) (ix2 r l) = out m c (ix2 R L) :=
  (pay2_apply _ _ r l).trans (Finset.sum_congr rfl fun k _ => congrArg₂ (· * ·) (h3 k) (blkW m c t l L hL k))

/-- After every point the scratch buffer holds the norm of the row tile. -/
theorem scratch_eq (c : Dev nD) (n : Nat) : ∀ (hn : n < cfg0.N) (r : Fin 640) (R : Fin 16640)
    (_ : R.val = n / 2 * 640 + r.val) (l : Fin 2048), ((outsAt0 m c n hn).2 (ix2 r l) : EReal) = normed m c R l := by
  induction n with
  | zero =>
    intro hn r R hR l
    exact (congrArg (fun p => p.2 (ix2 r l)) (outs_first m c ⟨0, hn⟩ rfl)).trans (first_norm m c ⟨0, hn⟩ r R hR l)
  | succ n ih =>
    intro hn r R hR l
    by_cases h0 : (n + 1) % 2 = 0
    · exact (congrArg (fun p => p.2 (ix2 r l)) (outs_first m c ⟨n + 1, hn⟩ h0)).trans (first_norm m c ⟨n + 1, hn⟩ r R hR l)
    · exact (congrArg (fun p => p.2 (ix2 r l)) (outs_next m c ⟨n + 1, hn⟩ h0)).trans
        (ih (Nat.lt_of_succ_lt hn) r R (by omega) l)

/-- After every point the output block is its rows' norms times its columns. -/
theorem block_eq (c : Dev nD) (t : Fin cfg0.N) (r : Fin 640) (R : Fin 16640) (hR : R.val = t.val / 2 * 640 + r.val)
    (l : Fin 1792) (L : Fin 3584) (hL : L.val = t.val % 2 * 1792 + l.val) :
    ((outsAt0 m c t.val t.isLt).1 (ix2 r l) : EReal) = out m c (ix2 R L) := by
  by_cases h0 : t.val % 2 = 0
  · exact (congrArg (fun p => p.1 (ix2 r l)) (outs_first m c t h0)).trans
      (cols_apply m c t _ r R (first_norm m c t r R hR) l L hL)
  · exact (congrArg (fun p => p.1 (ix2 r l)) (outs_next m c t h0)).trans
      (cols_apply m c t _ r R (scratch_eq m c _ _ r R (by omega)) l L hL)

/-! ## The output array -/

theorem flushed_eq (c : Dev nD) (t : Fin cfg0.N) :
    (dats m 0 c).flushed 3 t = (win0_3.blk t).view.read (Elt Ideal) (out m c) := by
  show (cfg0.win 3).cut (grid0.coords t) ((dats m 0 c).after 3 t) = _
  rw [after0_3]
  funext y
  show (outsAt0 m c t.val t.isLt).1 y = out m c ((win0_3.rect t).emb y)
  obtain ⟨r, l, rfl⟩ : ∃ (r : Fin 640) (l : Fin 1792), y = ix2 r l := ⟨y 0, y 1, Shape.idx_ext₂ rfl rfl⟩
  have ht : t.val < 52 := lt_of_lt_of_eq t.isLt N_0
  have e : (win0_3.rect t).emb (ix2 r l)
      = ix2 (⟨t.val / 2 * 640 + r.val, by omega⟩ : Fin 16640) (⟨t.val % 2 * 1792 + l.val, by omega⟩ : Fin 3584) := by
    refine Shape.idx_ext₂ ?_ ?_
    · rw [Pipeline.Window.rect_emb_val win0_3 t _ 0 rfl, (index_all t).2.2.1]
      rfl
    · rw [Pipeline.Window.rect_emb_val win0_3 t _ 1 rfl, (index_all t).2.2.2]
      rfl
  exact (block_eq m c t r ⟨t.val / 2 * 640 + r.val, by omega⟩ rfl l ⟨t.val % 2 * 1792 + l.val, by omega⟩ rfl).trans
    (congrArg (out m c) e).symm

theorem cover (i : S16640x3584.Idx) :
    ∃ t : Fin cfg0.N, (cfg0.win 3).flush t = true ∧ i ∈ ((cfg0.win 3).blk t).view.set := by
  have h0 : (i 0 : Nat) < 16640 := (i 0).isLt
  have h1 : (i 1 : Nat) < 3584 := (i 1).isLt
  have hN : cfg0.N = 52 := N_0
  refine ⟨⟨(i 0 : Nat) / 640 * 2 + (i 1 : Nat) / 1792, by omega⟩, flush0_3 _, ?_⟩
  refine (Finset.ext_iff.mp (View.set_slice_whole main_v17 (win0_3.rect _)) i).mpr ?_
  rw [Rect.mem_set_unit]
  intro a
  match a with
  | ⟨0, _⟩ =>
    show win0_3.index _ 0 * 640 ≤ (i 0 : Nat) ∧ (i 0 : Nat) < win0_3.index _ 0 * 640 + 640
    rw [(index_all _).2.2.1]; dsimp only; omega
  | ⟨1, _⟩ =>
    show win0_3.index _ 1 * 1792 ≤ (i 1 : Nat) ∧ (i 1 : Nat) < win0_3.index _ 1 * 1792 + 1792
    rw [(index_all _).2.2.2]; dsimp only; omega

theorem final (c : Dev nD) : (dats m 0 c).arrAt 3 cfg0.N = out m c :=
  (dats m 0 c).arrAt_eq_of_cover 3 (out m c) (fun t _ => flushed_eq m c t) cover

/-! ## The result of the run -/

/-- The arguments, as device `c` is given them. -/
abbrev h (c : Dev nD) : S2x8208x2048.Idx → EReal := m ((c.tc : Thread nD τ).loc main_arg0)
abbrev gain (c : Dev nD) : S4x2048.Idx → EReal := m ((c.tc : Thread nD τ).loc main_arg1)
abbrev w (c : Dev nD) : S2x2048x4544.Idx → EReal := m ((c.tc : Thread nD τ).loc main_arg2)

theorem aH_apply (c : Dev nD) (R : Fin 16640) (l : Fin 2048) (hr : R.val % 8320 < 8208) :
    aH m c (ix2 R l) = h m c (ix3 ⟨R.val / 8320, by omega⟩ ⟨R.val % 8320, hr⟩ l) := by
  unfold aH V V0
  after_reads_at
  rw [dif_pos hr]
  after_reads_simp

theorem aN_apply (c : Dev nD) (l : Fin 2048) : aN m c (ix2 0 l) = gain m c (ix2 1 l) := by
  unfold aN V V0
  after_reads_at

/-- Where the packed weight has column `l` of the RWKV branch. -/
def col (l : Fin 3520) : Fin 3584 := if l.val < 3168 then ⟨l.val, by omega⟩ else if l.val < 3264 then ⟨l.val + 32, by omega⟩
  else ⟨l.val + 64, by omega⟩

theorem col_val (l : Fin 3520) : (l.val < 3168 ∧ (col l).val = l.val) ∨ (3168 ≤ l.val ∧ l.val < 3264 ∧ (col l).val = l.val + 32)
    ∨ (3264 ≤ l.val ∧ (col l).val = l.val + 64) := by
  unfold col
  split_ifs <;> dsimp only <;> omega

set_option maxRecDepth 200000 in
set_option maxHeartbeats 2000000 in
theorem aW_apply (c : Dev nD) (k : Fin 2048) (l : Fin 3520) :
    aW m c (ix2 k (col l)) = w m c (ix3 0 k ⟨1024 + l.val, by omega⟩) := by
  have hl := col_val l
  unfold aW V V0
  after_reads_at
  by_cases h1 : l.val < 3072
  · rw [dif_pos (by omega)]
    after_reads_at
    exact congrArg (w m c) (congrArg (ix3 0 k) (Fin.ext (by dsimp only; omega)))
  rw [dif_neg (by omega)]
  by_cases h2 : l.val < 3168
  · rw [dif_pos (by omega)]
    after_reads_at
    rw [dif_pos (by omega)]
    exact congrArg (w m c) (congrArg (ix3 0 k) (Fin.ext (by dsimp only; omega)))
  rw [dif_neg (by omega)]
  by_cases h3 : l.val < 3264
  · rw [dif_pos (by omega)]
    after_reads_at
    rw [dif_pos (by omega)]
    exact congrArg (w m c) (congrArg (ix3 0 k) (Fin.ext (by dsimp only; omega)))
  rw [dif_neg (by omega)]
  after_reads_at
  exact congrArg (w m c) (congrArg (ix3 0 k) (Fin.ext (by dsimp only; omega)))

/-- The result over the batches. -/
def res (c : Dev nD) : S2x8208x3520.Idx → EReal := fun i =>
  proj (fun k => h m c (ix3 (i 0) (i 1) k)) (fun k => gain m c (ix2 1 k))
    (fun k => w m c (ix3 0 k ⟨1024 + (i 2).val, Nat.add_lt_add_left (i 2).isLt 1024⟩))

theorem out_tok (c : Dev nD) (R : Fin 16640) (b : Fin 2) (i : Fin 8208) (hR : R.val = b.val * 8320 + i.val) (l : Fin 3520) :
    out m c (ix2 R (col l)) = res m c (ix3 b i l) := by
  have hb : (⟨R.val / 8320, by omega⟩ : Fin 2) = b := Fin.ext (by dsimp only; omega)
  have hi : (⟨R.val % 8320, by omega⟩ : Fin 8208) = i := Fin.ext (by dsimp only; omega)
  have hr : R.val % 8320 < 8208 := by omega
  refine proj_congr (fun k => ?_) (fun k => aN_apply m c k) (fun k => aW_apply m c k l)
  refine (aH_apply m c R k hr).trans ?_
  rw [hb, hi]
  rfl

set_option maxRecDepth 200000 in
set_option maxHeartbeats 2000000 in
/-- The result keeps the columns that the padding did not add. -/
theorem tail_eq (c : Dev nD) : Pipeline.afterTail₀ cfgs (dats m) 0 (V0 m) [hostOps1] c main_v23 = res m c := by
  funext j
  idx_vars j
  have hl := col_val j2
  have hA : Pipeline.withArrays (cfgs 0).spec c (V0 m c) (fun w => (dats m 0 c).arrAt w (cfgs 0).N) (Proc.tc.devRef main_v17)
    = out m c := (Pipeline.withArrays_arr spec0 (by decide) c _ _ 3).trans (final m c)
  refine Eq.trans ?_ (out_tok m c ⟨j0.val * 8320 + j1.val, by omega⟩ j0 j1 rfl j2)
  unfold Pipeline.afterTail₀
  generalize out m c = o at hA ⊢
  generalize Pipeline.withArrays (cfgs 0).spec c (V0 m c) (fun w => (dats m 0 c).arrAt w (cfgs 0).N) = A at hA ⊢
  after_reads_at
  rcases hl with ⟨h1, h2⟩ | ⟨h0, h1, h2⟩ | ⟨h1, h2⟩
  · rw [dif_pos h1]
    after_reads_at
    exact (congrFun hA _).trans (congrArg o (congrArg (ix2 _) (Fin.ext (by dsimp only; omega))))
  · rw [dif_neg (by omega), dif_pos (by omega)]
    after_reads_at
    exact (congrFun hA _).trans (congrArg o (congrArg (ix2 _) (Fin.ext (by dsimp only; omega))))
  · rw [dif_neg (by omega), dif_neg (by omega)]
    after_reads_at
    exact (congrFun hA _).trans (congrArg o (congrArg (ix2 _) (Fin.ext (by dsimp only; omega))))

/-- The run: the result, and the arguments unchanged. -/
theorem run : θ_run defs (onTc (τ := τ) (main (F := Ideal))) ⟨m, fun _ => 0, ρ⟩ fun r => ∀ c : Dev nD,
      r.2.mem ((c.tc : Thread nD τ).loc main_v23) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v23 (Pipeline.mem_restRefs_of main_v23 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.OddInRwIdeal.Hand

namespace Cert.Proof.OddInRw

open Cert.RowMath

theorem frame_p : Cert.quiescent_OddInRw := fun m ρ _ => Cert.OddInRw.Gen.frame m ρ
theorem frame_pi : Cert.quiescent_OddInRwIdeal := fun m ρ _ => Cert.OddInRwIdeal.Gen.frame m ρ
theorem frame_ri : Cert.quiescent_OddInRwRefIdeal := fun m ρ _ =>
  (θ_run Cert.OddInRwRefIdeal.defs _ _).mono (fun r h => ⟨fun c => (h c).2,
      Idealize.ShloMosaic.sem_eq_zero_of_no_sems (by decide) r.2⟩)
    (Cert.OddInRwRefIdeal.Value.run (F := Ideal) m ρ)

theorem algebraic : Cert.algebraic_OddInRwIdeal_OddInRwRefIdeal := by
  intro m ρ m' ρ' _ hagree
  refine ⟨fun c => Cert.OddInRwIdeal.Hand.res m c, Cert.OddInRwIdeal.Hand.run m ρ, ?_⟩
  refine (θ_run Cert.OddInRwRefIdeal.defs _ _).mono (fun _ h c => ⟨(h c).1.trans ?_, (h c).2⟩)
    (Cert.OddInRwRefIdeal.Value.run (F := Ideal) m' ρ')
  obtain ⟨h0, h1, h2⟩ := hagree c
  rw [h0, h1, h2]
  funext j
  change Cert.OddInRwIdeal.S2x8208x3520.Idx at j
  idx_vars j
  clean_types
  pointwise [Cert.OddInRwIdeal.Hand.res]
  rfl

end Cert.Proof.OddInRw

end
-- ==== Proof.S5Post.lean ====
/-
  The gated output of the S5 mixer: its frames, and its value. A grid point is a tile of 640 rows.
-/
module

public import proofs.«01_k».proof.Defs
public import proofs.«01_k».proof.Proof.RowMath
public import proofs.«01_k».proof.Proof.Gen.S5Post.Frame
public import proofs.«01_k».proof.Proof.Gen.S5PostIdeal.Frame
public import proofs.«01_k».proof.Proof.Gen.S5PostRefIdeal.Run
public import Idealize.ShloMosaic.Lib.Pointwise
public import Idealize.ShloMosaic.Lib.Pipeline.Value
public import Idealize.ShloMosaic.Lib.StableHlo.ReadAt
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)
open scoped BigOperators

namespace Cert.S5PostIdeal.Hand

open Cert.S5PostIdeal Cert.S5PostIdeal.Gen Cert.RowMath

variable (m : (ℓ : Loc nD τ sig) → Buf (Elt Ideal) ℓ) (ρ : Dev nD → PrngReg)

/-- The activation, by its tangent formula. -/
def gelu (x : EReal) : EReal :=
  x * (Ideal.ofBits FTy.f32 0x3F000000#32 * (1
    + Ideal.tanh (Ideal.ofBits FTy.f32 0x3F4C422A#32 * (x + Ideal.ofBits FTy.f32 0x3D372713#32 * (x * x * x)))))

/-- Entry `l` of a row: the activation of `y + d * u`, gated by its product with `w` plus `b`. -/
def glu (y d u : Fin 1024 → EReal) (w : Fin 1024 → Fin 1024 → EReal) (b : Fin 1024 → EReal) (l : Fin 1024) : EReal :=
  gelu (y l + d l * u l) * Ideal.logistic ((∑ k, gelu (y k + d k * u k) * w k l) + b l)

theorem glu_congr {y y' d d' u u' b b' : Fin 1024 → EReal} {w w' : Fin 1024 → Fin 1024 → EReal} (hy : ∀ k, y k = y' k)
    (hd : ∀ k, d k = d' k) (hu : ∀ k, u k = u' k) (hw : ∀ k l, w k l = w' k l) (hb : ∀ k, b k = b' k) (l : Fin 1024) :
    glu y d u w b l = glu y' d' u' w' b' l := by
  rw [funext hy, funext hd, funext hu, funext hb, funext fun k => funext (hw k)]

/-- The stored block at an index. -/
theorem pay_apply (v0 : Vec Ideal S640x1024 .f32) (v2 : Vec Ideal S1x1024 .f32) (v4 : Vec Ideal S640x1024 .f32)
    (v23 : Vec Ideal S1024x1024 .bf16) (v26 : Vec Ideal S1x1024 .f32) (r : Fin 640) (l : Fin 1024) :
    k0_pay1 v0 v2 v4 v23 v26 (ix2 r l) = glu (fun k => v0 (ix2 r k)) (fun k => v2 (ix2 0 k)) (fun k => v4 (ix2 r k))
      (fun k l => v23 (ix2 k l)) (fun k => v26 (ix2 0 k)) l := by
  pointwise [k0_pay1]
  rfl

/-! ## The blocks as rows of the arrays -/

abbrev aY (c : Dev nD) : S16640x1024.Idx → EReal := V m c main_v2
abbrev aU (c : Dev nD) : S16640x1024.Idx → EReal := V m c main_v5
abbrev aD (c : Dev nD) : S1x1024.Idx → EReal := V m c main_v13
abbrev aW (c : Dev nD) : S1024x1024.Idx → EReal := V m c main_v10
abbrev aB (c : Dev nD) : S1x1024.Idx → EReal := V m c main_v14

theorem index_rows : ∀ t : Fin grid0.N, (win0_0.index t 0 = t.val ∧ win0_0.index t 1 = 0)
    ∧ (win0_1.index t 0 = t.val ∧ win0_1.index t 1 = 0) ∧ (win0_5.index t 0 = t.val ∧ win0_5.index t 1 = 0) := by decide +kernel

section Blocks

variable (c : Dev nD) (t : Fin cfg0.N)

theorem blkY (r : Fin 640) (R : Fin 16640) (hR : R.val = t.val * 640 + r.val) (l : Fin 1024) :
    (iblk m c 0 t (ix2 r l) : EReal) = aY m c (ix2 R l) := by
  refine congrArg (aY m c) (?_ : (win0_0.rect t).emb (ix2 r l) = _)
  refine Shape.idx_ext₂ ?_ (win0_0.rect_emb_val_of_index_zero t 1 (index_rows t).1.2 _)
  rw [Pipeline.Window.rect_emb_val win0_0 t _ 0 rfl, (index_rows t).1.1]
  exact hR.symm

theorem blkU (r : Fin 640) (R : Fin 16640) (hR : R.val = t.val * 640 + r.val) (l : Fin 1024) :
    (iblk m c 1 t (ix2 r l) : EReal) = aU m c (ix2 R l) := by
  refine congrArg (aU m c) (?_ : (win0_1.rect t).emb (ix2 r l) = _)
  refine Shape.idx_ext₂ ?_ (win0_1.rect_emb_val_of_index_zero t 1 (index_rows t).2.1.2 _)
  rw [Pipeline.Window.rect_emb_val win0_1 t _ 0 rfl, (index_rows t).2.1.1]
  exact hR.symm

theorem blkD (l : Fin 1024) : (iblk m c 2 t (ix2 0 l) : EReal) = aD m c (ix2 0 l) := by
  refine congrArg (aD m c) (?_ : (win0_2.rect t).emb (ix2 0 l) = _)
  exact Shape.idx_ext₂ (win0_2.rect_emb_val_of_index_zero t 0 rfl _) (win0_2.rect_emb_val_of_index_zero t 1 rfl _)

theorem blkW (k l : Fin 1024) : (iblk m c 3 t (ix2 k l) : EReal) = aW m c (ix2 k l) := by
  refine congrArg (aW m c) (?_ : (win0_3.rect t).emb (ix2 k l) = _)
  exact Shape.idx_ext₂ (win0_3.rect_emb_val_of_index_zero t 0 rfl _) (win0_3.rect_emb_val_of_index_zero t 1 rfl _)

theorem blkB (l : Fin 1024) : (iblk m c 4 t (ix2 0 l) : EReal) = aB m c (ix2 0 l) := by
  refine congrArg (aB m c) (?_ : (win0_4.rect t).emb (ix2 0 l) = _)
  exact Shape.idx_ext₂ (win0_4.rect_emb_val_of_index_zero t 0 rfl _) (win0_4.rect_emb_val_of_index_zero t 1 rfl _)

end Blocks

/-! ## The output array -/

/-- Row `R` of the output array. -/
def out (c : Dev nD) : S16640x1024.Idx → EReal := fun i =>
  glu (fun k => aY m c (ix2 (i 0) k)) (fun k => aD m c (ix2 0 k)) (fun k => aU m c (ix2 (i 0) k)) (fun k l => aW m c (ix2 k l))
    (fun k => aB m c (ix2 0 k)) (i 1)

theorem flushed_eq (c : Dev nD) (t : Fin cfg0.N) :
    (dats m 0 c).flushed 5 t = (win0_5.blk t).view.read (Elt Ideal) (out m c) := by
  show (cfg0.win 5).cut (grid0.coords t) ((dats m 0 c).after 5 t) = _
  rw [after0_5]
  unfold out0_5
  have hz : (![0, 0] : Fin 2 → Nat) = fun _ => 0 := funext fun a => by fin_cases a <;> rfl
  rw [View.canon_unit_zero hz, View.ld_unit_zero hz, View.ld_unit_zero hz, View.ld_unit_zero hz, View.ld_unit_zero hz,
    View.ld_unit_zero hz]
  funext y
  show k0_pay1 (iblk m c 0 t) (iblk m c 2 t) (iblk m c 1 t) (iblk m c 3 t) (iblk m c 4 t) y = out m c ((win0_5.rect t).emb y)
  obtain ⟨r, l, rfl⟩ : ∃ (r : Fin 640) (l : Fin 1024), y = ix2 r l := ⟨y 0, y 1, Shape.idx_ext₂ rfl rfl⟩
  have ht : t.val < 26 := lt_of_lt_of_eq t.isLt N_0
  have e : (win0_5.rect t).emb (ix2 r l) = ix2 (⟨t.val * 640 + r.val, by omega⟩ : Fin 16640) l := by
    refine Shape.idx_ext₂ ?_ (win0_5.rect_emb_val_of_index_zero t 1 (index_rows t).2.2.2 _)
    rw [Pipeline.Window.rect_emb_val win0_5 t _ 0 rfl, (index_rows t).2.2.1]
    rfl
  refine (pay_apply _ _ _ _ _ r l).trans (Eq.trans ?_ (congrArg (out m c) e).symm)
  exact glu_congr (blkY m c t r ⟨t.val * 640 + r.val, by omega⟩ rfl) (blkD m c t)
    (blkU m c t r ⟨t.val * 640 + r.val, by omega⟩ rfl) (blkW m c t) (blkB m c t) l

theorem cover (i : S16640x1024.Idx) :
    ∃ t : Fin cfg0.N, (cfg0.win 5).flush t = true ∧ i ∈ ((cfg0.win 5).blk t).view.set := by
  have h0 : (i 0 : Nat) < 16640 := (i 0).isLt
  have h1 : (i 1 : Nat) < 1024 := (i 1).isLt
  have hN : cfg0.N = 26 := N_0
  refine ⟨⟨(i 0 : Nat) / 640, by omega⟩, flush0_5 _, ?_⟩
  refine (Finset.ext_iff.mp (View.set_slice_whole main_v15 (win0_5.rect _)) i).mpr ?_
  rw [Rect.mem_set_unit]
  intro a
  match a with
  | ⟨0, _⟩ =>
    show win0_5.index _ 0 * 640 ≤ (i 0 : Nat) ∧ (i 0 : Nat) < win0_5.index _ 0 * 640 + 640
    rw [(index_rows _).2.2.1]; dsimp only; omega
  | ⟨1, _⟩ =>
    show win0_5.index _ 1 * 1024 ≤ (i 1 : Nat) ∧ (i 1 : Nat) < win0_5.index _ 1 * 1024 + 1024
    rw [(index_rows _).2.2.2]; omega

theorem final (c : Dev nD) : (dats m 0 c).arrAt 5 cfg0.N = out m c :=
  (dats m 0 c).arrAt_eq_of_cover 5 (out m c) (fun t _ => flushed_eq m c t) cover

/-! ## The result of the run -/

/-- The arguments, as device `c` is given them. -/
abbrev y (c : Dev nD) : S2x8208x1024.Idx → EReal := m ((c.tc : Thread nD τ).loc main_arg0)
abbrev u (c : Dev nD) : S2x8208x1024.Idx → EReal := m ((c.tc : Thread nD τ).loc main_arg1)
abbrev d (c : Dev nD) : S2x1024.Idx → EReal := m ((c.tc : Thread nD τ).loc main_arg2)
abbrev w (c : Dev nD) : S2x1024x1024.Idx → EReal := m ((c.tc : Thread nD τ).loc main_arg3)
abbrev b (c : Dev nD) : S2x1024.Idx → EReal := m ((c.tc : Thread nD τ).loc main_arg4)

theorem aY_apply (c : Dev nD) (R : Fin 16640) (l : Fin 1024) (hr : R.val % 8320 < 8208) :
    aY m c (ix2 R l) = y m c (ix3 ⟨R.val / 8320, by omega⟩ ⟨R.val % 8320, hr⟩ l) := by
  unfold aY V V0
  after_reads_at
  rw [dif_pos hr]
  after_reads_simp

theorem aU_apply (c : Dev nD) (R : Fin 16640) (l : Fin 1024) (hr : R.val % 8320 < 8208) :
    aU m c (ix2 R l) = u m c (ix3 ⟨R.val / 8320, by omega⟩ ⟨R.val % 8320, hr⟩ l) := by
  unfold aU V V0
  after_reads_at
  rw [dif_pos hr]
  after_reads_simp

theorem aD_apply (c : Dev nD) (l : Fin 1024) : aD m c (ix2 0 l) = d m c (ix2 0 l) := by
  unfold aD V V0
  after_reads_at

theorem aW_apply (c : Dev nD) (k l : Fin 1024) : aW m c (ix2 k l) = w m c (ix3 0 k l) := by
  unfold aW V V0
  after_reads_at

theorem aB_apply (c : Dev nD) (l : Fin 1024) : aB m c (ix2 0 l) = b m c (ix2 0 l) := by
  unfold aB V V0
  after_reads_at

/-- The result over the batches. -/
def res (c : Dev nD) : S2x8208x1024.Idx → EReal := fun i =>
  glu (fun k => y m c (ix3 (i 0) (i 1) k)) (fun k => d m c (ix2 0 k)) (fun k => u m c (ix3 (i 0) (i 1) k))
    (fun k l => w m c (ix3 0 k l)) (fun k => b m c (ix2 0 k)) (i 2)

theorem out_tok (c : Dev nD) (R : Fin 16640) (n : Fin 2) (i : Fin 8208) (hR : R.val = n.val * 8320 + i.val) (l : Fin 1024) :
    out m c (ix2 R l) = res m c (ix3 n i l) := by
  have hb : (⟨R.val / 8320, by omega⟩ : Fin 2) = n := Fin.ext (by dsimp only; omega)
  have hi : (⟨R.val % 8320, by omega⟩ : Fin 8208) = i := Fin.ext (by dsimp only; omega)
  have hr : R.val % 8320 < 8208 := by omega
  refine glu_congr (fun k => (aY_apply m c R k hr).trans ?_) (aD_apply m c) (fun k => (aU_apply m c R k hr).trans ?_)
    (aW_apply m c) (aB_apply m c) l
  · rw [hb, hi]; rfl
  · rw [hb, hi]; rfl

set_option maxRecDepth 200000 in
theorem tail_eq (c : Dev nD) : Pipeline.afterTail₀ cfgs (dats m) 0 (V0 m) [hostOps1] c main_v18 = res m c := by
  funext j
  idx_vars j
  unfold Pipeline.afterTail₀
  after_reads_simp
  rw [show Pipeline.withArrays (cfgs 0).spec c (V0 m c) (fun w => (dats m 0 c).arrAt w (cfgs 0).N) (Proc.tc.devRef main_v15)
    = out m c from (Pipeline.withArrays_arr spec0 (by decide) c _ _ 5).trans (final m c)]
  clean_types
  refine Eq.trans ?_ (out_tok m c ⟨j0.val * 8320 + j1.val, by omega⟩ j0 j1 rfl j2)
  generalize out m c = o
  pointwise

/-- The run: the result, and the arguments unchanged. -/
theorem run : θ_run defs (onTc (τ := τ) (main (F := Ideal))) ⟨m, fun _ => 0, ρ⟩ fun r => ∀ c : Dev nD,
      r.2.mem ((c.tc : Thread nD τ).loc main_v18) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v18 (Pipeline.mem_restRefs_of main_v18 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.S5PostIdeal.Hand

namespace Cert.Proof.S5Post

open Cert.RowMath

theorem frame_p : Cert.quiescent_S5Post := fun m ρ _ => Cert.S5Post.Gen.frame m ρ
theorem frame_pi : Cert.quiescent_S5PostIdeal := fun m ρ _ => Cert.S5PostIdeal.Gen.frame m ρ
theorem frame_ri : Cert.quiescent_S5PostRefIdeal := fun m ρ _ =>
  (θ_run Cert.S5PostRefIdeal.defs _ _).mono (fun r h => ⟨fun c => (h c).2,
      Idealize.ShloMosaic.sem_eq_zero_of_no_sems (by decide) r.2⟩)
    (Cert.S5PostRefIdeal.Value.run (F := Ideal) m ρ)

theorem algebraic : Cert.algebraic_S5PostIdeal_S5PostRefIdeal := by
  intro m ρ m' ρ' _ hagree
  refine ⟨fun c => Cert.S5PostIdeal.Hand.res m c, Cert.S5PostIdeal.Hand.run m ρ, ?_⟩
  refine (θ_run Cert.S5PostRefIdeal.defs _ _).mono (fun _ h c => ⟨(h c).1.trans ?_, (h c).2⟩)
    (Cert.S5PostRefIdeal.Value.run (F := Ideal) m' ρ')
  obtain ⟨h0, h1, h2, h3, h4⟩ := hagree c
  unfold Cert.S5PostRefIdeal.Value.res_main_v33
  rw [h0, h1, h2, h3, h4]
  funext j
  change Cert.S5PostIdeal.S2x8208x1024.Idx at j
  idx_vars j
  clean_types
  pointwise [Cert.S5PostIdeal.Hand.res]
  rfl

end Cert.Proof.S5Post

end
-- ==== Proof.S5Disc.lean ====
/-
  The call that discretises the S5 recurrence of the first odd layer: its frames, and its value.

  One step over whole arrays: the decay `A = exp(Λ dt)` of every state and the factor `(A - 1) / Λ` of its input, each as
  a real and an imaginary part.
-/
module

public import proofs.«01_k».proof.Defs
public import proofs.«01_k».proof.Proof.Gen.S5Disc.Frame
public import proofs.«01_k».proof.Proof.Gen.S5DiscIdeal.Frame
public import proofs.«01_k».proof.Proof.Gen.S5DiscRefIdeal.Run
public import Idealize.ShloMosaic.Lib.Pointwise
public import Idealize.ShloMosaic.Lib.Pipeline.Value
public import Idealize.ShloMosaic.Lib.StableHlo.ReadAt
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.S5DiscIdeal.Hand

open Cert.S5DiscIdeal Cert.S5DiscIdeal.Gen

variable (m : (ℓ : Loc nD τ sig) → Buf (Elt Ideal) ℓ) (ρ : Dev nD → PrngReg)

/-! ## One state -/

/-- The decay of a state with the rate `r + i s` under the logarithm `d` of the step, real part. -/
def decRe (r s d : EReal) : EReal := Ideal.exp (r * Ideal.exp d) * Ideal.cos (s * Ideal.exp d)
/-- Its imaginary part. -/
def decIm (r s d : EReal) : EReal := Ideal.exp (r * Ideal.exp d) * Ideal.sin (s * Ideal.exp d)
/-- The factor of the state's input, real part. -/
def facRe (r s d : EReal) : EReal := Ideal.div ((decRe r s d - 1) * r + decIm r s d * s) (r * r + s * s)
/-- Its imaginary part. -/
def facIm (r s d : EReal) : EReal := Ideal.div (decIm r s d * r - (decRe r s d - 1) * s) (r * r + s * s)

variable (v0 v2 v4 : Vec Ideal S64x64 .f32) (g p : Fin 64)

theorem pay5_apply : k0_pay5 v0 v2 v4 (ix2 g p) = decRe (v0 (ix2 g p)) (v2 (ix2 g p)) (v4 (ix2 g p)) := by
  pointwise [k0_pay5, k0_pay4, k0_pay3, k0_pay2, k0_pay1]
  rfl

theorem pay6_apply : k0_pay6 v0 v2 v4 (ix2 g p) = decIm (v0 (ix2 g p)) (v2 (ix2 g p)) (v4 (ix2 g p)) := by
  pointwise [k0_pay6, k0_pay4, k0_pay3, k0_pay2, k0_pay1]
  rfl

theorem pay8_apply : k0_pay8 v0 v2 v4 (ix2 g p) = facRe (v0 (ix2 g p)) (v2 (ix2 g p)) (v4 (ix2 g p)) := by
  pointwise [k0_pay8, k0_pay7, k0_pay6, k0_pay5, k0_pay4, k0_pay3, k0_pay2, k0_pay1]
  rfl

theorem pay9_apply : k0_pay9 v0 v2 v4 (ix2 g p) = facIm (v0 (ix2 g p)) (v2 (ix2 g p)) (v4 (ix2 g p)) := by
  pointwise [k0_pay9, k0_pay7, k0_pay6, k0_pay5, k0_pay4, k0_pay3, k0_pay2, k0_pay1]
  rfl

/-! ## The arrays -/

abbrev aR (c : Dev nD) : S64x64.Idx → EReal := V m c main_v1
abbrev aI (c : Dev nD) : S64x64.Idx → EReal := V m c main_v3
abbrev aD (c : Dev nD) : S64x64.Idx → EReal := V m c main_v7

/-- The arguments, as device `c` is given them. -/
abbrev lamRe (c : Dev nD) : S2x64x64.Idx → EReal := m ((c.tc : Thread nD τ).loc main_arg0)
abbrev lamIm (c : Dev nD) : S2x64x64.Idx → EReal := m ((c.tc : Thread nD τ).loc main_arg1)
abbrev logDt (c : Dev nD) : S2x64.Idx → EReal := m ((c.tc : Thread nD τ).loc main_arg2)

theorem aR_apply (c : Dev nD) : aR m c (ix2 g p) = lamRe m c (ix3 0 g p) := by
  unfold aR V
  after_reads_at

theorem aI_apply (c : Dev nD) : aI m c (ix2 g p) = lamIm m c (ix3 0 g p) := by
  unfold aI V
  after_reads_at

theorem aD_apply (c : Dev nD) : aD m c (ix2 g p) = logDt m c (ix2 0 g) := by
  unfold aD V
  after_reads_at

theorem blkR (c : Dev nD) (t : Fin cfg0.N) : (iblk m c 0 t (ix2 g p) : EReal) = lamRe m c (ix3 0 g p) := by
  refine Eq.trans (congrArg (aR m c) (?_ : (win0_0.rect t).emb (ix2 g p) = ix2 g p)) (aR_apply m g p c)
  exact Shape.idx_ext₂ (win0_0.rect_emb_val_of_index_zero t 0 rfl _) (win0_0.rect_emb_val_of_index_zero t 1 rfl _)

theorem blkI (c : Dev nD) (t : Fin cfg0.N) : (iblk m c 1 t (ix2 g p) : EReal) = lamIm m c (ix3 0 g p) := by
  refine Eq.trans (congrArg (aI m c) (?_ : (win0_1.rect t).emb (ix2 g p) = ix2 g p)) (aI_apply m g p c)
  exact Shape.idx_ext₂ (win0_1.rect_emb_val_of_index_zero t 0 rfl _) (win0_1.rect_emb_val_of_index_zero t 1 rfl _)

theorem blkD (c : Dev nD) (t : Fin cfg0.N) : (iblk m c 2 t (ix2 g p) : EReal) = logDt m c (ix2 0 g) := by
  refine Eq.trans (congrArg (aD m c) (?_ : (win0_2.rect t).emb (ix2 g p) = ix2 g p)) (aD_apply m g p c)
  exact Shape.idx_ext₂ (win0_2.rect_emb_val_of_index_zero t 0 rfl _) (win0_2.rect_emb_val_of_index_zero t 1 rfl _)

/-! ## The results -/

/-- A function of rate and step, over all states. -/
def over (f : EReal → EReal → EReal → EReal) (c : Dev nD) : S64x64.Idx → EReal := fun i =>
  f (lamRe m c (ix3 0 (i 0) (i 1))) (lamIm m c (ix3 0 (i 0) (i 1))) (logDt m c (ix2 0 (i 0)))

theorem hz : (![0, 0] : Fin 2 → Nat) = fun _ => 0 := funext fun a => by fin_cases a <;> rfl

/-- What the step leaves of a value that is `f` at every state. -/
theorem step_eq (f : EReal → EReal → EReal → EReal) (pay : Vec Ideal S64x64 .f32 → Vec Ideal S64x64 .f32 → Vec Ideal S64x64 .f32 → Vec Ideal S64x64 .f32)
    (h : ∀ v0 v2 v4 g p, pay v0 v2 v4 (ix2 g p) = f (v0 (ix2 g p)) (v2 (ix2 g p)) (v4 (ix2 g p))) (c : Dev nD) (t : Fin cfg0.N) :
    pay (iblk m c 0 t) (iblk m c 1 t) (iblk m c 2 t) = over m f c := by
  funext y
  obtain ⟨g, p, rfl⟩ : ∃ g p : Fin 64, y = ix2 g p := ⟨y 0, y 1, Shape.idx_ext₂ rfl rfl⟩
  rw [h, blkR, blkI, blkD]
  rfl

/-- A rectangle that starts at the origin and has the array's shape holds every index. -/
theorem mem_unit {off : Fin 2 → Nat} {inb} (h : ∀ a, off a = 0) (i : S64x64.Idx) : i ∈ (Rect.unit (s := S64x64) off S64x64.size inb).set :=
  Rect.mem_set_unit.mpr fun a => ⟨(h a).le.trans (Nat.zero_le _), by rw [h a, Nat.zero_add]; exact (i a).isLt⟩

theorem final3 (c : Dev nD) : (dats m 0 c).arrAt 3 cfg0.N = over m decRe c := by
  refine (dats m 0 c).arrAt_eq_of_cover 3 (over m decRe c) (fun t _ => ?_) fun i => ⟨t0_0, flush0_3 _, ?_⟩
  · show (cfg0.win 3).cut (grid0.coords t) ((dats m 0 c).after 3 t) = _
    rw [after0_3]
    unfold out0_3
    rw [View.canon_unit_zero hz, View.ld_unit_zero hz, View.ld_unit_zero hz, View.ld_unit_zero hz]
    exact (step_eq m decRe _ pay5_apply c t).trans (funext fun y => congrArg (over m decRe c) (Shape.idx_ext₂
      (win0_3.rect_emb_val_of_index_zero t 0 rfl y) (win0_3.rect_emb_val_of_index_zero t 1 rfl y)).symm)
  · exact (Finset.ext_iff.mp (View.set_slice_whole main_v8_0 (win0_3.rect _)) i).mpr (mem_unit (fun a => by fin_cases a <;> rfl) i)

theorem final4 (c : Dev nD) : (dats m 0 c).arrAt 4 cfg0.N = over m decIm c := by
  refine (dats m 0 c).arrAt_eq_of_cover 4 (over m decIm c) (fun t _ => ?_) fun i => ⟨t0_0, flush0_4 _, ?_⟩
  · show (cfg0.win 4).cut (grid0.coords t) ((dats m 0 c).after 4 t) = _
    rw [after0_4]
    unfold out0_4
    rw [View.canon_unit_zero hz, View.ld_unit_zero hz, View.ld_unit_zero hz, View.ld_unit_zero hz]
    exact (step_eq m decIm _ pay6_apply c t).trans (funext fun y => congrArg (over m decIm c) (Shape.idx_ext₂
      (win0_4.rect_emb_val_of_index_zero t 0 rfl y) (win0_4.rect_emb_val_of_index_zero t 1 rfl y)).symm)
  · exact (Finset.ext_iff.mp (View.set_slice_whole main_v8_1 (win0_4.rect _)) i).mpr (mem_unit (fun a => by fin_cases a <;> rfl) i)

theorem final5 (c : Dev nD) : (dats m 0 c).arrAt 5 cfg0.N = over m facRe c := by
  refine (dats m 0 c).arrAt_eq_of_cover 5 (over m facRe c) (fun t _ => ?_) fun i => ⟨t0_0, flush0_5 _, ?_⟩
  · show (cfg0.win 5).cut (grid0.coords t) ((dats m 0 c).after 5 t) = _
    rw [after0_5]
    unfold out0_5
    rw [View.canon_unit_zero hz, View.ld_unit_zero hz, View.ld_unit_zero hz, View.ld_unit_zero hz]
    exact (step_eq m facRe _ pay8_apply c t).trans (funext fun y => congrArg (over m facRe c) (Shape.idx_ext₂
      (win0_5.rect_emb_val_of_index_zero t 0 rfl y) (win0_5.rect_emb_val_of_index_zero t 1 rfl y)).symm)
  · exact (Finset.ext_iff.mp (View.set_slice_whole main_v8_2 (win0_5.rect _)) i).mpr (mem_unit (fun a => by fin_cases a <;> rfl) i)

theorem final6 (c : Dev nD) : (dats m 0 c).arrAt 6 cfg0.N = over m facIm c := by
  refine (dats m 0 c).arrAt_eq_of_cover 6 (over m facIm c) (fun t _ => ?_) fun i => ⟨t0_0, flush0_6 _, ?_⟩
  · show (cfg0.win 6).cut (grid0.coords t) ((dats m 0 c).after 6 t) = _
    rw [after0_6]
    unfold out0_6
    rw [View.canon_unit_zero hz, View.ld_unit_zero hz, View.ld_unit_zero hz, View.ld_unit_zero hz]
    exact (step_eq m facIm _ pay9_apply c t).trans (funext fun y => congrArg (over m facIm c) (Shape.idx_ext₂
      (win0_6.rect_emb_val_of_index_zero t 0 rfl y) (win0_6.rect_emb_val_of_index_zero t 1 rfl y)).symm)
  · exact (Finset.ext_iff.mp (View.set_slice_whole main_v8_3 (win0_6.rect _)) i).mpr (mem_unit (fun a => by fin_cases a <;> rfl) i)

/-- The run, at its value: decay and factor of every state, and the arguments as they were. -/
theorem run : θ_run defs (onTc (τ := τ) (main (F := Ideal))) ⟨m, fun _ => 0, ρ⟩ fun r => ∀ c : Dev nD,
      r.2.mem ((c.tc : Thread nD τ).loc main_v8_0) = over m decRe c
      ∧ r.2.mem ((c.tc : Thread nD τ).loc main_v8_1) = over m decIm c
      ∧ r.2.mem ((c.tc : Thread nD τ).loc main_v8_2) = over m facRe c
      ∧ r.2.mem ((c.tc : Thread nD τ).loc main_v8_3) = over m facIm c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).1 3).trans (final3 m c), ((h c).1 4).trans (final4 m c), ((h c).1 5).trans (final5 m c), ((h c).1 6).trans (final6 m c),
        ((h c).2 main_arg0 (Pipeline.mem_restRefs_of main_arg0 (by decide) (by decide))).trans (V_main_arg0 m c),
        ((h c).2 main_arg1 (Pipeline.mem_restRefs_of main_arg1 (by decide) (by decide))).trans (V_main_arg1 m c),
        ((h c).2 main_arg2 (Pipeline.mem_restRefs_of main_arg2 (by decide) (by decide))).trans (V_main_arg2 m c)⟩)
    (run_main m ρ)

end Cert.S5DiscIdeal.Hand

namespace Cert.Proof.S5Disc

open Cert.S5DiscIdeal.Hand

theorem frame_p : Cert.quiescent_S5Disc := fun m ρ _ => Cert.S5Disc.Gen.frame m ρ
theorem frame_pi : Cert.quiescent_S5DiscIdeal := fun m ρ _ => Cert.S5DiscIdeal.Gen.frame m ρ
theorem frame_ri : Cert.quiescent_S5DiscRefIdeal := fun m ρ _ =>
  (θ_run Cert.S5DiscRefIdeal.defs _ _).mono (fun r h => ⟨fun c => (h c).2.2.2.2,
      Idealize.ShloMosaic.sem_eq_zero_of_no_sems (by decide) r.2⟩)
    (Cert.S5DiscRefIdeal.Value.run (F := Ideal) m ρ)

theorem algebraic : Cert.algebraic_S5DiscIdeal_S5DiscRefIdeal := by
  intro m ρ m' ρ' _ hagree
  refine ⟨over m decRe, over m decIm, over m facRe, over m facIm, run m ρ, ?_⟩
  refine (θ_run Cert.S5DiscRefIdeal.defs _ _).mono (fun _ h c => ⟨(h c).1.trans ?_, (h c).2.1.trans ?_, (h c).2.2.1.trans ?_,
      (h c).2.2.2.1.trans ?_, (h c).2.2.2.2⟩) (Cert.S5DiscRefIdeal.Value.run (F := Ideal) m' ρ')
  all_goals
    obtain ⟨h0, h1, h2⟩ := hagree c
    rw [h0, h2, h1]
    funext j
    change Cert.S5DiscIdeal.S64x64.Idx at j
    idx_vars j
    clean_types
    pointwise [over, decRe, decIm, facRe, facIm]

end Cert.Proof.S5Disc

end
-- ==== Proof.AttnPrep.lean ====
/-
  The call that lays out the keys and values for the differential attention: its frames, and its value.

  A grid point is a tile of 640 rows. The call stores the keys of each head beside position columns, and the values of
  each head turned, over rows of ones; the program keeps the keys and the values, so only those are read here.
-/
module

public import proofs.«01_k».proof.Defs
public import proofs.«01_k».proof.Proof.Gen.AttnPrep.Frame
public import proofs.«01_k».proof.Proof.Gen.AttnPrepIdeal.Frame
public import proofs.«01_k».proof.Proof.Gen.AttnPrepRefIdeal.Run
public import Idealize.ShloMosaic.Lib.Pointwise
public import Idealize.ShloMosaic.Lib.Pipeline.Value
public import Idealize.ShloMosaic.Lib.Pipeline.ValueKit.Tiles
public import Idealize.ShloMosaic.Lib.StableHlo.ReadAt
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AttnPrepIdeal.Hand

open Cert.AttnPrepIdeal Cert.AttnPrepIdeal.Gen

variable (m : (ℓ : Loc nD τ sig) → Buf (Elt Ideal) ℓ) (ρ : Dev nD → PrngReg)

/-- The blocks that each point takes. -/
theorem index_all : ∀ t : Fin grid0.N, (win0_0.index t 0 = t.val ∧ win0_0.index t 1 = 3)
    ∧ (win0_1.index t 0 = t.val ∧ win0_1.index t 1 = 4)
    ∧ (win0_3.index t 0 = t.val / 13 ∧ win0_3.index t 1 = 0 ∧ win0_3.index t 2 = t.val % 13 ∧ win0_3.index t 3 = 0)
    ∧ (win0_4.index t 0 = t.val / 13 ∧ win0_4.index t 1 = 0 ∧ win0_4.index t 2 = 0 ∧ win0_4.index t 3 = t.val % 13) := by
  decide +kernel

/-! ## One point -/

/-- A head's columns, stored under two unit axes. -/
theorem key_piece (X : Vec Ideal S640x1024 .f32) (o : Nat) (inb) (h1 : S640x128.ShapeCasts S640x128) (h2) (h3 : S640x128.ShapeCasts S1x1x640x128)
    (x : S1x1x640x128.Idx) (r : Fin 640) (L : Fin 1024) (hr : (r : Nat) = x 2) (hL : (L : Nat) = o + x 3) :
    (shapeCast S1x1x640x128 (truncf (F := Ideal) (φ := .f32) .bf16 (shapeCast S640x128 (View.ld X (Rect.unit (s := S640x1024) ![0, o] S640x128.size inb)) h1) h2) h3 x : EReal) = X (ix2 r L) := by
  idx_vars x
  pointwise
  exact congrArg₂ (fun a b => X (ix2 a b)) (Fin.ext hr.symm) (Fin.ext hL.symm)

/-- A head's columns, turned, over rows of ones, stored under two unit axes: above the ones. -/
theorem val_piece (X : Vec Ideal S640x1024 .f32) (o : Nat) (inb) (h1 : S640x128.ShapeCasts S640x128) (h2) (h3 : Shape.Concatenates [S128x640, S8x640] S136x640 0) (h4) (h5 : S136x640.ShapeCasts S1x1x136x640)
    (w : FVec Ideal S8x640 .f32) (x : S1x1x136x640.Idx) (r : Fin 640) (L : Fin 1024) (hx : (x 2 : Nat) < 128) (hr : (r : Nat) = x 3) (hL : (L : Nat) = o + x 2) :
    (shapeCast S1x1x136x640 (truncf (F := Ideal) (φ := .f32) .bf16 (concatenate S136x640 0 [⟨S128x640,
      transpose S128x640 [1, 0] (shapeCast S640x128 (View.ld X (Rect.unit (s := S640x1024) ![0, o] S640x128.size inb)) h1) h2⟩, ⟨S8x640, w⟩] h3) h4) h5 x : EReal)
      = X (ix2 r L) := by
  idx_vars x
  pointwise
  rw [dif_pos hx]
  exact congrArg₂ (fun a b => X (ix2 a b)) (Fin.ext hr.symm) (Fin.ext hL.symm)

/-- The keys in the block that a point leaves, whatever its inputs. -/
theorem keys_apply (x0 x1 : Vec Ideal S640x1024 .f32) (x2 : Vec Ideal S640x128 .bf16) (y : S1x8x640x256.Idx) (h : (y 3 : Nat) < 128)
    (r : Fin 640) (L : Fin 1024) (hr : (r : Nat) = y 2) (hL : (L : Nat) = (y 1 : Nat) * 128 + y 3) :
    (out0_3 x0 x1 x2 y : EReal) = x0 (ix2 r L) := by
  canon_tiles x h
  all_goals first
    | omega
    | (open_payloads
       refine key_piece x0 _ _ _ _ _ x r L ?_ ?_ <;> omega)

/-- The values in the block that a point leaves, whatever its inputs. -/
theorem vals_apply (x0 x1 : Vec Ideal S640x1024 .f32) (x2 : Vec Ideal S640x128 .bf16) (y : S1x8x136x640.Idx) (h : (y 2 : Nat) < 128)
    (r : Fin 640) (L : Fin 1024) (hr : (r : Nat) = y 3) (hL : (L : Nat) = (y 1 : Nat) * 128 + y 2) :
    (out0_4 x0 x1 x2 y : EReal) = x1 (ix2 r L) := by
  canon_tiles x h
  all_goals
    open_payloads
    refine val_piece x1 _ _ _ _ _ _ _ _ x r L ?_ ?_ ?_ <;> omega

/-- The padded array that the call reads, and the argument it is made of. -/
abbrev aZ (c : Dev nD) : S16640x5120.Idx → EReal := V m c main_v2
abbrev z (c : Dev nD) : S2x8208x5120.Idx → EReal := m ((c.tc : Thread nD τ).loc main_arg0)

/-- A row of the padded array is a row of the argument, as long as it is a token's. -/
theorem aZ_apply (c : Dev nD) (R : Fin 16640) (l : Fin 5120) (hr : R.val % 8320 < 8208) :
    aZ m c (ix2 R l) = z m c (ix3 ⟨R.val / 8320, by omega⟩ ⟨R.val % 8320, hr⟩ l) := by
  unfold aZ V V0
  after_reads_at
  rw [dif_pos hr]
  after_reads_simp

/-! ## The output arrays -/

/-- The rows of a grid point are those of the array from its tile on. -/
theorem blkK (c : Dev nD) (t : Fin cfg0.N) (r : Fin 640) (L : Fin 1024) (R : Fin 16640) (C : Fin 5120)
    (hR : (R : Nat) = t.val * 640 + r) (hC : (C : Nat) = 3072 + L) : (iblk m c 0 t (ix2 r L) : EReal) = aZ m c (ix2 R C) := by
  refine congrArg (aZ m c) (?_ : (win0_0.rect t).emb (ix2 r L) = _)
  refine Shape.idx_ext₂ ?_ ?_
  · rw [Pipeline.Window.rect_emb_val win0_0 t _ 0 rfl, (index_all t).1.1]; exact hR.symm
  · rw [Pipeline.Window.rect_emb_val win0_0 t _ 1 rfl, (index_all t).1.2]; exact hC.symm

theorem blkV (c : Dev nD) (t : Fin cfg0.N) (r : Fin 640) (L : Fin 1024) (R : Fin 16640) (C : Fin 5120)
    (hR : (R : Nat) = t.val * 640 + r) (hC : (C : Nat) = 4096 + L) : (iblk m c 1 t (ix2 r L) : EReal) = aZ m c (ix2 R C) := by
  refine congrArg (aZ m c) (?_ : (win0_1.rect t).emb (ix2 r L) = _)
  refine Shape.idx_ext₂ ?_ ?_
  · rw [Pipeline.Window.rect_emb_val win0_1 t _ 0 rfl, (index_all t).2.1.1]; exact hR.symm
  · rw [Pipeline.Window.rect_emb_val win0_1 t _ 1 rfl, (index_all t).2.1.2]; exact hC.symm

/-- What point `t` leaves of the keys' block, and of the values'. -/
def blockK (c : Dev nD) (t : Fin cfg0.N) : S1x8x640x256.Idx → EReal := out0_3 (iblk m c 0 t) (iblk m c 1 t) (iblk m c 2 t)
def blockV (c : Dev nD) (t : Fin cfg0.N) : S1x8x136x640.Idx → EReal := out0_4 (iblk m c 0 t) (iblk m c 1 t) (iblk m c 2 t)

theorem blockK_apply (c : Dev nD) (t : Fin cfg0.N) (y : S1x8x640x256.Idx) (hy : (y 3 : Nat) < 128) (R : Fin 16640) (C : Fin 5120)
    (hR : (R : Nat) = t.val * 640 + y 2) (hC : (C : Nat) = 3072 + ((y 1 : Nat) * 128 + y 3)) : blockK m c t y = aZ m c (ix2 R C) := by
  have h1 : (y 1 : Nat) < 8 := (y 1).isLt
  exact (keys_apply _ _ _ y hy (y 2) (⟨(y 1 : Nat) * 128 + y 3, by omega⟩ : Fin 1024) rfl rfl).trans (blkK m c t _ _ R C hR hC)

theorem blockV_apply (c : Dev nD) (t : Fin cfg0.N) (y : S1x8x136x640.Idx) (hy : (y 2 : Nat) < 128) (R : Fin 16640) (C : Fin 5120)
    (hR : (R : Nat) = t.val * 640 + y 3) (hC : (C : Nat) = 4096 + ((y 1 : Nat) * 128 + y 2)) : blockV m c t y = aZ m c (ix2 R C) := by
  have h1 : (y 1 : Nat) < 8 := (y 1).isLt
  exact (vals_apply _ _ _ y hy (y 3) (⟨(y 1 : Nat) * 128 + y 2, by omega⟩ : Fin 1024) rfl rfl).trans (blkV m c t _ _ R C hR hC)

/-- Two indices with equal components are equal. -/
theorem idx_ext₄ {n0 n1 n2 n3 : Nat} {i j : (⟨4, ![n0, n1, n2, n3]⟩ : Shape).Idx} (h0 : (i 0 : Nat) = j 0) (h1 : (i 1 : Nat) = j 1)
    (h2 : (i 2 : Nat) = j 2) (h3 : (i 3 : Nat) = j 3) : i = j :=
  funext fun a => Fin.ext (match a with | ⟨0, _⟩ => h0 | ⟨1, _⟩ => h1 | ⟨2, _⟩ => h2 | ⟨3, _⟩ => h3)

/-- The point that writes an entry of the keys' array, and the entry's place in that point's block. -/
def ptK (i : S2x8x8320x256.Idx) : Fin cfg0.N :=
  ⟨(i 0 : Nat) * 13 + (i 2 : Nat) / 640, by
    have h0 : (i 0 : Nat) < 2 := (i 0).isLt
    have h2 : (i 2 : Nat) < 8320 := (i 2).isLt
    have hN : cfg0.N = 26 := N_0
    omega⟩
def inK (i : S2x8x8320x256.Idx) : S1x8x640x256.Idx := ix4 0 (i 1) ⟨(i 2 : Nat) % 640, Nat.mod_lt _ (by decide)⟩ (i 3)

/-- The array of the keys: every entry as the point that writes it leaves it. -/
def outK (c : Dev nD) (i : S2x8x8320x256.Idx) : EReal := blockK m c (ptK i) (inK i)

theorem outK_def (c : Dev nD) (i : S2x8x8320x256.Idx) : outK m c i = blockK m c (ptK i) (inK i) := rfl

/-- The point that writes an entry of the values' array, and the entry's place in that point's block. -/
def ptV (i : S2x8x136x8320.Idx) : Fin cfg0.N :=
  ⟨(i 0 : Nat) * 13 + (i 3 : Nat) / 640, by
    have h0 : (i 0 : Nat) < 2 := (i 0).isLt
    have h3 : (i 3 : Nat) < 8320 := (i 3).isLt
    have hN : cfg0.N = 26 := N_0
    omega⟩
def inV (i : S2x8x136x8320.Idx) : S1x8x136x640.Idx := ix4 0 (i 1) (i 2) ⟨(i 3 : Nat) % 640, Nat.mod_lt _ (by decide)⟩

/-- The array of the values: every entry as the point that writes it leaves it. -/
def outV (c : Dev nD) (i : S2x8x136x8320.Idx) : EReal := blockV m c (ptV i) (inV i)

theorem outV_def (c : Dev nD) (i : S2x8x136x8320.Idx) : outV m c i = blockV m c (ptV i) (inV i) := rfl

/-- An entry of the keys' array is the one its point leaves there. -/
theorem blockK_of (c : Dev nD) (t : Fin cfg0.N) (y : S1x8x640x256.Idx) (i : S2x8x8320x256.Idx) (h0 : (i 0 : Nat) = t.val / 13 * 1 + y 0)
    (h1 : (i 1 : Nat) = y 1) (h3 : (i 3 : Nat) = y 3) (h2 : (i 2 : Nat) = t.val % 13 * 640 + y 2) :
    blockK m c t y = outK m c i := by
  have ht : t.val < 26 := lt_of_lt_of_eq t.isLt N_0
  have y0 : (y 0 : Nat) < 1 := (y 0).isLt
  have y2 : (y 2 : Nat) < 640 := (y 2).isLt
  refine Eq.trans (congrArg₂ (blockK m c) (Fin.ext ?_) (idx_ext₄ ?_ ?_ ?_ ?_)) (outK_def m c i).symm
  · show t.val = (i 0 : Nat) * 13 + (i 2 : Nat) / 640; omega
  · exact Nat.lt_one_iff.mp y0
  · exact h1.symm
  · show (y 2 : Nat) = (i 2 : Nat) % 640; omega
  · exact h3.symm

/-- An entry of the values' array is the one its point leaves there. -/
theorem blockV_of (c : Dev nD) (t : Fin cfg0.N) (y : S1x8x136x640.Idx) (i : S2x8x136x8320.Idx) (h0 : (i 0 : Nat) = t.val / 13 * 1 + y 0)
    (h1 : (i 1 : Nat) = y 1) (h2 : (i 2 : Nat) = y 2) (h3 : (i 3 : Nat) = t.val % 13 * 640 + y 3) :
    blockV m c t y = outV m c i := by
  have ht : t.val < 26 := lt_of_lt_of_eq t.isLt N_0
  have y0 : (y 0 : Nat) < 1 := (y 0).isLt
  have y3 : (y 3 : Nat) < 640 := (y 3).isLt
  refine Eq.trans (congrArg₂ (blockV m c) (Fin.ext ?_) (idx_ext₄ ?_ ?_ ?_ ?_)) (outV_def m c i).symm
  · show t.val = (i 0 : Nat) * 13 + (i 3 : Nat) / 640; omega
  · exact Nat.lt_one_iff.mp y0
  · exact h1.symm
  · exact h2.symm
  · show (y 3 : Nat) = (i 3 : Nat) % 640; omega

/-- Reading an array through a point's block, for any array. -/
theorem readK (o : S2x8x8320x256.Idx → EReal) (t : Fin cfg0.N) (y : S1x8x640x256.Idx) :
    (win0_3.blk t).view.read (Elt Ideal) o y = o ((win0_3.rect t).emb y) := rfl

theorem readV (o : S2x8x136x8320.Idx → EReal) (t : Fin cfg0.N) (y : S1x8x136x640.Idx) :
    (win0_4.blk t).view.read (Elt Ideal) o y = o ((win0_4.rect t).emb y) := rfl

/-- What each point writes back is its part of the array. -/
theorem flushedK (c : Dev nD) (t : Fin cfg0.N) : (dats m 0 c).flushed 3 t = (win0_3.blk t).view.read (Elt Ideal) (outK m c) := by
  show (cfg0.win 3).cut (grid0.coords t) ((dats m 0 c).after 3 t) = _
  rw [show (dats m 0 c).after 3 t = blockK m c t from after0_3 m c t]
  funext y
  show blockK m c t y = _
  refine Eq.trans ?_ (readK (outK m c) t y).symm
  refine blockK_of m c t y _ ?_ ?_ ?_ ?_
  · exact (Pipeline.Window.rect_emb_val win0_3 t y 0 rfl).trans (by rw [(index_all t).2.2.1.1]; rfl)
  · exact win0_3.rect_emb_val_of_index_zero t 1 (index_all t).2.2.1.2.1 y
  · exact win0_3.rect_emb_val_of_index_zero t 3 (index_all t).2.2.1.2.2.2 y
  · exact (Pipeline.Window.rect_emb_val win0_3 t y 2 rfl).trans (by rw [(index_all t).2.2.1.2.2.1]; rfl)

theorem flushedV (c : Dev nD) (t : Fin cfg0.N) : (dats m 0 c).flushed 4 t = (win0_4.blk t).view.read (Elt Ideal) (outV m c) := by
  show (cfg0.win 4).cut (grid0.coords t) ((dats m 0 c).after 4 t) = _
  rw [show (dats m 0 c).after 4 t = blockV m c t from after0_4 m c t]
  funext y
  show blockV m c t y = _
  refine Eq.trans ?_ (readV (outV m c) t y).symm
  refine blockV_of m c t y _ ?_ ?_ ?_ ?_
  · exact (Pipeline.Window.rect_emb_val win0_4 t y 0 rfl).trans (by rw [(index_all t).2.2.2.1]; rfl)
  · exact win0_4.rect_emb_val_of_index_zero t 1 (index_all t).2.2.2.2.1 y
  · exact win0_4.rect_emb_val_of_index_zero t 2 (index_all t).2.2.2.2.2.1 y
  · exact (Pipeline.Window.rect_emb_val win0_4 t y 3 rfl).trans (by rw [(index_all t).2.2.2.2.2.2]; rfl)

/-- The points together write every entry. -/
theorem coverK (i : S2x8x8320x256.Idx) : ∃ t : Fin cfg0.N, (cfg0.win 3).flush t = true ∧ i ∈ ((cfg0.win 3).blk t).view.set := by
  have h0 : (i 0 : Nat) < 2 := (i 0).isLt
  have h1 : (i 1 : Nat) < 8 := (i 1).isLt
  have h2 : (i 2 : Nat) < 8320 := (i 2).isLt
  have h3 : (i 3 : Nat) < 256 := (i 3).isLt
  have hN : cfg0.N = 26 := N_0
  refine ⟨⟨(i 0 : Nat) * 13 + (i 2 : Nat) / 640, by omega⟩, flush0_3 _, ?_⟩
  refine (Finset.ext_iff.mp (View.set_slice_whole main_v14_0 (win0_3.rect _)) i).mpr ?_
  rw [Rect.mem_set_unit]
  intro a
  match a with
  | ⟨0, _⟩ =>
    show win0_3.index _ 0 * 1 ≤ (i 0 : Nat) ∧ (i 0 : Nat) < win0_3.index _ 0 * 1 + 1
    rw [(index_all _).2.2.1.1]; dsimp only; omega
  | ⟨1, _⟩ =>
    show win0_3.index _ 1 * 8 ≤ (i 1 : Nat) ∧ (i 1 : Nat) < win0_3.index _ 1 * 8 + 8
    rw [(index_all _).2.2.1.2.1]; omega
  | ⟨2, _⟩ =>
    show win0_3.index _ 2 * 640 ≤ (i 2 : Nat) ∧ (i 2 : Nat) < win0_3.index _ 2 * 640 + 640
    rw [(index_all _).2.2.1.2.2.1]; dsimp only; omega
  | ⟨3, _⟩ =>
    show win0_3.index _ 3 * 256 ≤ (i 3 : Nat) ∧ (i 3 : Nat) < win0_3.index _ 3 * 256 + 256
    rw [(index_all _).2.2.1.2.2.2]; omega

theorem coverV (i : S2x8x136x8320.Idx) : ∃ t : Fin cfg0.N, (cfg0.win 4).flush t = true ∧ i ∈ ((cfg0.win 4).blk t).view.set := by
  have h0 : (i 0 : Nat) < 2 := (i 0).isLt
  have h1 : (i 1 : Nat) < 8 := (i 1).isLt
  have h2 : (i 2 : Nat) < 136 := (i 2).isLt
  have h3 : (i 3 : Nat) < 8320 := (i 3).isLt
  have hN : cfg0.N = 26 := N_0
  refine ⟨⟨(i 0 : Nat) * 13 + (i 3 : Nat) / 640, by omega⟩, flush0_4 _, ?_⟩
  refine (Finset.ext_iff.mp (View.set_slice_whole main_v14_1 (win0_4.rect _)) i).mpr ?_
  rw [Rect.mem_set_unit]
  intro a
  match a with
  | ⟨0, _⟩ =>
    show win0_4.index _ 0 * 1 ≤ (i 0 : Nat) ∧ (i 0 : Nat) < win0_4.index _ 0 * 1 + 1
    rw [(index_all _).2.2.2.1]; dsimp only; omega
  | ⟨1, _⟩ =>
    show win0_4.index _ 1 * 8 ≤ (i 1 : Nat) ∧ (i 1 : Nat) < win0_4.index _ 1 * 8 + 8
    rw [(index_all _).2.2.2.2.1]; omega
  | ⟨2, _⟩ =>
    show win0_4.index _ 2 * 136 ≤ (i 2 : Nat) ∧ (i 2 : Nat) < win0_4.index _ 2 * 136 + 136
    rw [(index_all _).2.2.2.2.2.1]; omega
  | ⟨3, _⟩ =>
    show win0_4.index _ 3 * 640 ≤ (i 3 : Nat) ∧ (i 3 : Nat) < win0_4.index _ 3 * 640 + 640
    rw [(index_all _).2.2.2.2.2.2]; dsimp only; omega

theorem finalK (c : Dev nD) : (dats m 0 c).arrAt 3 cfg0.N = outK m c :=
  (dats m 0 c).arrAt_eq_of_cover 3 (outK m c) (fun t _ => flushedK m c t) coverK

theorem finalV (c : Dev nD) : (dats m 0 c).arrAt 4 cfg0.N = outV m c :=
  (dats m 0 c).arrAt_eq_of_cover 4 (outV m c) (fun t _ => flushedV m c t) coverV

/-! ## The result of the run -/

/-- Entry `l` of head `h` of token `i`, of the keys and of the values. -/
theorem outK_tok (c : Dev nD) (n : Fin 2) (h : Fin 8) (i : Fin 8208) (l : Fin 128) (I : Fin 8320) (L : Fin 256) (C : Fin 5120)
    (hI : (I : Nat) = i) (hL : (L : Nat) = l) (hC : (C : Nat) = 3072 + h * 128 + l) : outK m c (ix4 n h I L) = z m c (ix3 n i C) := by
  have hN : cfg0.N = 26 := N_0
  have hl : (L : Nat) < 128 := hL.trans_lt l.isLt
  refine (outK_def m c _).trans ((blockK_apply m c _ _ hl (⟨(n : Nat) * 8320 + i, by omega⟩ : Fin 16640) C ?_ ?_).trans ?_)
  · show (n : Nat) * 8320 + i = ((n : Nat) * 13 + (I : Nat) / 640) * 640 + (I : Nat) % 640; omega
  · show (C : Nat) = 3072 + (h * 128 + L); omega
  refine (aZ_apply m c _ C (by dsimp only; omega)).trans ?_
  refine congrArg (z m c) (congrArg₂ (fun a b => ix3 a b C) (Fin.ext ?_) (Fin.ext ?_))
  · show ((n : Nat) * 8320 + i) / 8320 = n; omega
  · show ((n : Nat) * 8320 + i) % 8320 = i; omega

theorem outV_tok (c : Dev nD) (n : Fin 2) (h : Fin 8) (i : Fin 8208) (l : Fin 128) (I : Fin 8320) (L : Fin 136) (C : Fin 5120)
    (hI : (I : Nat) = i) (hL : (L : Nat) = l) (hC : (C : Nat) = 4096 + h * 128 + l) : outV m c (ix4 n h L I) = z m c (ix3 n i C) := by
  have hN : cfg0.N = 26 := N_0
  have hl : (L : Nat) < 128 := hL.trans_lt l.isLt
  refine (outV_def m c _).trans ((blockV_apply m c _ _ hl (⟨(n : Nat) * 8320 + i, by omega⟩ : Fin 16640) C ?_ ?_).trans ?_)
  · show (n : Nat) * 8320 + i = ((n : Nat) * 13 + (I : Nat) / 640) * 640 + (I : Nat) % 640; omega
  · show (C : Nat) = 4096 + (h * 128 + L); omega
  refine (aZ_apply m c _ C (by dsimp only; omega)).trans ?_
  refine congrArg (z m c) (congrArg₂ (fun a b => ix3 a b C) (Fin.ext ?_) (Fin.ext ?_))
  · show ((n : Nat) * 8320 + i) / 8320 = n; omega
  · show ((n : Nat) * 8320 + i) % 8320 = i; omega

/-- The keys over batches and tokens, every head in two halves. -/
def resK (c : Dev nD) : S2x8208x8x2x64.Idx → EReal := fun j =>
  z m c (ix3 (j 0) (j 1) ⟨3072 + ((j 2 : Nat) * 128 + (j 3 : Nat) * 64 + j 4), by
    have h2 : (j 2 : Nat) < 8 := (j 2).isLt
    have h3 : (j 3 : Nat) < 2 := (j 3).isLt
    have h4 : (j 4 : Nat) < 64 := (j 4).isLt
    omega⟩)

/-- The values over batches and tokens. -/
def resV (c : Dev nD) : S2x8208x8x128.Idx → EReal := fun j =>
  z m c (ix3 (j 0) (j 1) ⟨4096 + ((j 2 : Nat) * 128 + (j 3 : Nat)), by
    have h2 : (j 2 : Nat) < 8 := (j 2).isLt
    have h3 : (j 3 : Nat) < 128 := (j 3).isLt
    omega⟩)

set_option maxRecDepth 200000 in
theorem tailK (c : Dev nD) : Pipeline.afterTail₀ cfgs (dats m) 0 (V0 m) [hostOps1] c main_v20 = resK m c := by
  funext j
  idx_vars j
  unfold Pipeline.afterTail₀
  after_reads_simp
  rw [show Pipeline.withArrays (cfgs 0).spec c (V0 m c) (fun w => (dats m 0 c).arrAt w (cfgs 0).N) (Proc.tc.devRef main_v14_0)
    = outK m c from ((dats m 0 c).withArrays_arrAt sharedIn0 (V0 m c) (A_eq m c) 3).trans (finalK m c)]
  clean_types
  refine Eq.trans ?_ (outK_tok m c j0 j2 j1 ⟨j3.val * 64 + j4.val, by omega⟩ ⟨j1.val, by omega⟩ ⟨j3.val * 64 + j4.val, by omega⟩
    ⟨3072 + (j2.val * 128 + j3.val * 64 + j4.val), by omega⟩ rfl rfl (by dsimp only; omega))
  generalize outK m c = o
  pointwise

set_option maxRecDepth 200000 in
theorem tailV (c : Dev nD) : Pipeline.afterTail₀ cfgs (dats m) 0 (V0 m) [hostOps1] c main_v21 = resV m c := by
  funext j
  idx_vars j
  unfold Pipeline.afterTail₀
  after_reads_simp
  rw [show Pipeline.withArrays (cfgs 0).spec c (V0 m c) (fun w => (dats m 0 c).arrAt w (cfgs 0).N) (Proc.tc.devRef main_v14_1)
    = outV m c from ((dats m 0 c).withArrays_arrAt sharedIn0 (V0 m c) (A_eq m c) 4).trans (finalV m c)]
  clean_types
  refine Eq.trans ?_ (outV_tok m c j0 j2 j1 j3 ⟨j1.val, by omega⟩ ⟨j3.val, by omega⟩
    ⟨4096 + (j2.val * 128 + j3.val), by omega⟩ rfl rfl (by dsimp only; omega))
  generalize outV m c = o
  pointwise

/-- The run: keys and values, and the argument unchanged. -/
theorem run : θ_run defs (onTc (τ := τ) (main (F := Ideal))) ⟨m, fun _ => 0, ρ⟩ fun r => ∀ c : Dev nD,
      r.2.mem ((c.tc : Thread nD τ).loc main_v20) = resK m c
      ∧ r.2.mem ((c.tc : Thread nD τ).loc main_v21) = resV m c
      ∧ r.2.mem ((c.tc : Thread nD τ).loc main_arg0) = m ((c.tc : Thread nD τ).loc main_arg0) :=
  (θ_run defs _ _).mono (fun _ h c =>
      ⟨((h c).2 main_v20 (Pipeline.mem_restRefs_of main_v20 (by decide) (by decide))).trans (tailK m c),
        ((h c).2 main_v21 (Pipeline.mem_restRefs_of main_v21 (by decide) (by decide))).trans (tailV m c),
        ((h c).2 main_arg0 (Pipeline.mem_restRefs_of main_arg0 (by decide) (by decide))).trans (W_main_arg0 m (dats m) c)⟩)
    (run_main m ρ)

end Cert.AttnPrepIdeal.Hand

namespace Cert.Proof.AttnPrep

theorem frame_p : Cert.quiescent_AttnPrep := fun m ρ _ => Cert.AttnPrep.Gen.frame m ρ
theorem frame_pi : Cert.quiescent_AttnPrepIdeal := fun m ρ _ => Cert.AttnPrepIdeal.Gen.frame m ρ
theorem frame_ri : Cert.quiescent_AttnPrepRefIdeal := fun m ρ _ =>
  (θ_run Cert.AttnPrepRefIdeal.defs _ _).mono (fun r h => ⟨fun c => (h c).2.2,
      Idealize.ShloMosaic.sem_eq_zero_of_no_sems (by decide) r.2⟩)
    (Cert.AttnPrepRefIdeal.Value.run (F := Ideal) m ρ)

theorem algebraic : Cert.algebraic_AttnPrepIdeal_AttnPrepRefIdeal := by
  intro m ρ m' ρ' _ hagree
  refine ⟨fun c => Cert.AttnPrepIdeal.Hand.resK m c, fun c => Cert.AttnPrepIdeal.Hand.resV m c, Cert.AttnPrepIdeal.Hand.run m ρ, ?_⟩
  refine (θ_run Cert.AttnPrepRefIdeal.defs _ _).mono (fun _ h c => ⟨(h c).1.trans ?_, (h c).2.1.trans ?_, (h c).2.2⟩)
    (Cert.AttnPrepRefIdeal.Value.run (F := Ideal) m' ρ')
  · have h0 := hagree c
    rw [h0]
    funext j
    change Cert.AttnPrepIdeal.S2x8208x8x2x64.Idx at j
    idx_vars j
    clean_types
    pointwise [Cert.AttnPrepIdeal.Hand.resK]
  · have h0 := hagree c
    rw [h0]
    funext j
    change Cert.AttnPrepIdeal.S2x8208x8x128.Idx at j
    idx_vars j
    clean_types
    pointwise [Cert.AttnPrepIdeal.Hand.resV]

end Cert.Proof.AttnPrep

end
-- ==== Proof.DiffAttnTables.lean ====
/-
  The differential attention's two prefetched tables are the host's constants, so every block its index maps name
  lies inside its array (`ok_tables`), over any float values.
-/
module

public import proofs.«01_k».proof.Defs
public import proofs.«01_k».proof.Proof.Gen.DiffAttn
public import proofs.«01_k».proof.Proof.Gen.DiffAttnIdeal.Launch
public import proofs.«01_k».proof.Proof.Gen.DiffAttnIdeal.Skeleton
public import Idealize.ShloMosaic.Lib.Pipeline.Frame
public import Idealize.ShloMosaic.Lib.Pipeline.FrameBody
public import Idealize.ShloMosaic.Lib.Claim
public import Idealize.ShloMosaic.Lib.Exec
public import Idealize.ShloMosaic.Lib.Affine
public import Idealize.ShloMosaic.Lib.Tactic
public import Idealize.ShloMosaic.PureOps.Ideal

@[expose] public section

set_option maxRecDepth 16384
set_option Elab.async false

noncomputable section

namespace Cert.DiffAttnIdeal.Gen

open Cert.DiffAttnIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

/-! ## The tables -/

/-- The tables' contents, over any float values: the host's two constants. -/
def tables (F : FTy → Type) [FloatOps F] : pre0.Contents (Elt F) := fun
  | ⟨0, _⟩ => fun i => lit0 (S91.rowMajor i)
  | ⟨1, _⟩ => fun i => lit1 (S91.rowMajor i)
  | ⟨_ + 2, h⟩ => absurd h (Nat.not_lt.2 (Nat.le_add_left _ _))

theorem inb_q : ∀ i : grid0.Coords, ∀ a, (cc0_transform_1 k0_off1_inb numel1_S1 (tables Ideal) i a + 1) * S640x128.size a ≤ S16640x5120.size a := by
  decide +kernel
theorem inb_k : ∀ i : grid0.Coords, ∀ a, (cc0_transform_2 k0_off1_inb numel1_S1 (tables Ideal) i a + 1) * S1x1x640x256.size a ≤ S2x8x8320x256.size a := by
  decide +kernel
theorem inb_v : ∀ i : grid0.Coords, ∀ a, (cc0_transform_3 k0_off1_inb numel1_S1 (tables Ideal) i a + 1) * S1x1x136x640.size a ≤ S2x8x136x8320.size a := by
  decide +kernel
theorem inb_o : ∀ i : grid0.Coords, ∀ a, (cc0_transform_9 k0_off1_inb numel1_S1 (tables Ideal) i a + 1) * S640x128.size a ≤ S16640x1024.size a := by
  decide +kernel

variable {F : FTy → Type} [FloatOps F]

/-- At the tables every block lies inside its array and ends on whole words. -/
theorem ok_tables : ok0 (tables F) :=
  ⟨fun i => ⟨inb_q i, .inl rfl⟩,
   fun i => ⟨inb_k i, .inr (Affine.block_words_dvd (s := S2x8x8320x256) (p := EltTy.packing .bf16) (by decide) (by decide))⟩,
   fun i => ⟨inb_v i, .inr (Affine.block_words_dvd (s := S2x8x136x8320) (p := EltTy.packing .bf16) (by decide) (by decide))⟩,
   fun i => ⟨inb_o i, .inr (Affine.block_words_dvd (s := S16640x1024) (p := EltTy.packing .bf16) (by decide) (by decide))⟩⟩

/-- The tables as admissible contents, and the pipeline at them. -/
def adm : (pcfg0 (F := F)).Adm := ⟨tables F, ok_tables⟩
abbrev cfgA : Pipeline.Cfg sig Λ₀ := cfg0 (F := F) adm

end Cert.DiffAttnIdeal.Gen

end
-- ==== Proof.DiffAttn.lean ====
/-
  One grid point of the differential attention: the body runs to its end from any contents of the staging and the
  scratch buffers, whichever of its conditions hold, and over any float values (`body_run`).
-/
module

public import proofs.«01_k».proof.Proof.DiffAttnTables
public import proofs.«01_k».proof.Proof.Gen.DiffAttnIdeal.Skeleton

@[expose] public section

set_option maxRecDepth 16384
set_option Elab.async false

noncomputable section

namespace Cert.DiffAttnIdeal.Gen

open Cert.DiffAttnIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The body -/

/-- The kernel's third condition holds exactly where its second fails. -/
theorem cond3_of_not (a b : BitVec 32) (h : ¬ Scalar.cmpi .ne (Scalar.extui (Scalar.cmpi .ne b a) : BitVec 32) 0#32 = 1#1) :
    k0_cond3 a b = 1#1 := by
  by_cases e : b = a
  · subst e; simp [k0_cond3, Scalar.cmpi, Scalar.extui, IntOp.cmpi]
  · have hb : (b != a) = true := by simpa using e
    exact absurd (by simp [Scalar.cmpi, Scalar.extui, IntOp.cmpi, hb]) h

theorem not_cond3_of (a b : BitVec 32) (h : Scalar.cmpi .ne (Scalar.extui (Scalar.cmpi .ne b a) : BitVec 32) 0#32 = 1#1) :
    ¬ k0_cond3 a b = 1#1 := by
  intro h3
  by_cases e : b = a
  · subst e; simp [Scalar.cmpi, Scalar.extui, IntOp.cmpi] at h
  · have hb : (b == a) = false := by simpa using e
    simp [k0_cond3, Scalar.cmpi, Scalar.extui, IntOp.cmpi, hb] at h3

/-- A whole buffer's memref at some contents, from its pieces wherever they ended. -/
theorem owns_some (c : Dev nD) {sp : Space} {sh : Shape} {e : EltTy} (M : Memref sig .tc sp sh e) (f) :
    (M.view.loc (c : Thread nD τ) ↦[M.view.set]{fullShare} f : sProp 𝕄)
      ⊢ iprop(∃ X, ∃ f, ⌜M.view.read (Elt F) f = X⌝ ∗ (M.view.loc (c : Thread nD τ) ↦[M.view.set]{fullShare} f)) := by
  iintro H; iexists _; iexists f; isplitr; swap
  · iexact H
  · ipureintro; rfl

set_option maxHeartbeats 16000000 in
/-- The body at a point, from any contents of the staging and scratch buffers, the tables held for reading: it runs to
    its end, everything held again. -/
theorem body_run (c : Dev nD) (i : grid0.Coords) (arg5 : Memref sig .tc .smem S8 .f32) (harg5 : arg5.IsWhole) (arg6 : Memref sig .tc .vmem S640x128 .f32) (harg6 : arg6.IsWhole)
    (arg7 : Memref sig .tc .vmem S1x1x640x256 .bf16) (harg7 : arg7.IsWhole) (arg8 : Memref sig .tc .vmem S1x1x136x640 .bf16) (harg8 : arg8.IsWhole)
    (arg9 : Memref sig .tc .vmem S1x64 .f32) (harg9 : arg9.IsWhole) (arg10 : Memref sig .tc .vmem S1x64 .f32) (harg10 : arg10.IsWhole)
    (arg11 : Memref sig .tc .vmem S1x64 .f32) (harg11 : arg11.IsWhole) (arg12 : Memref sig .tc .vmem S1x64 .f32) (harg12 : arg12.IsWhole)
    (arg13 : Memref sig .tc .vmem S128x1 .f32) (harg13 : arg13.IsWhole) (arg14 : Memref sig .tc .vmem S640x128 .bf16) (harg14 : arg14.IsWhole)
    (T0 T1 : S91.Idx → Elt F .i32) (K : PUnit → sProp 𝕄) :
    iprop((∃ X, owns (c : Thread nD τ) arg5 fullShare X) ∗ (∃ X, owns (c : Thread nD τ) arg6 fullShare X)
      ∗ (∃ X, owns (c : Thread nD τ) arg7 fullShare X) ∗ (∃ X, owns (c : Thread nD τ) arg8 fullShare X)
      ∗ (∃ X, owns (c : Thread nD τ) arg9 fullShare X) ∗ (∃ X, owns (c : Thread nD τ) arg10 fullShare X)
      ∗ (∃ X, owns (c : Thread nD τ) arg11 fullShare X) ∗ (∃ X, owns (c : Thread nD τ) arg12 fullShare X)
      ∗ (∃ X, owns (c : Thread nD τ) arg13 fullShare X) ∗ (∃ X, owns (c : Thread nD τ) arg14 fullShare X)
      ∗ ((Memref.whole main_c).view.loc (c : Thread nD τ) ↦{fullShare.right} T0)
      ∗ ((Memref.whole main_c_0).view.loc (c : Thread nD τ) ↦{fullShare.right} T1)
      ∗ (∃ f, (Memref.whole cc0_scratch0).view.loc (c : Thread nD τ) ↦{fullShare} f)
      ∗ (∃ f, (Memref.whole cc0_scratch1).view.loc (c : Thread nD τ) ↦{fullShare} f)
      ∗ (∃ f, (Memref.whole cc0_scratch2).view.loc (c : Thread nD τ) ↦{fullShare} f)
      ∗ (iprop((∃ X, owns (c : Thread nD τ) arg5 fullShare X) ∗ (∃ X, owns (c : Thread nD τ) arg6 fullShare X)
        ∗ (∃ X, owns (c : Thread nD τ) arg7 fullShare X) ∗ (∃ X, owns (c : Thread nD τ) arg8 fullShare X)
        ∗ (∃ X, owns (c : Thread nD τ) arg9 fullShare X) ∗ (∃ X, owns (c : Thread nD τ) arg10 fullShare X)
        ∗ (∃ X, owns (c : Thread nD τ) arg11 fullShare X) ∗ (∃ X, owns (c : Thread nD τ) arg12 fullShare X)
        ∗ (∃ X, owns (c : Thread nD τ) arg13 fullShare X) ∗ (∃ X, owns (c : Thread nD τ) arg14 fullShare X)
        ∗ ((Memref.whole main_c).view.loc (c : Thread nD τ) ↦{fullShare.right} T0)
        ∗ ((Memref.whole main_c_0).view.loc (c : Thread nD τ) ↦{fullShare.right} T1)
        ∗ (∃ f, (Memref.whole cc0_scratch0).view.loc (c : Thread nD τ) ↦{fullShare} f)
        ∗ (∃ f, (Memref.whole cc0_scratch1).view.loc (c : Thread nD τ) ↦{fullShare} f)
        ∗ (∃ f, (Memref.whole cc0_scratch2).view.loc (c : Thread nD τ) ↦{fullShare} f)) -∗ K ⟨⟩))
    ⊢ wp frame (wpE (defs₀ (F := F)) Variants.none c none) Set.univ (cc0_diff_attention i (Memref.whole main_c) (Memref.isWhole_whole _) (Memref.whole main_c_0) (Memref.isWhole_whole _)
        arg5 harg5 arg6 harg6 arg7 harg7 arg8 harg8 arg9 harg9 arg10 harg10 arg11 harg11 arg12 harg12 arg13 harg13 arg14 harg14
        (Memref.whole cc0_scratch0) (Memref.isWhole_whole _) (Memref.whole cc0_scratch1) (Memref.isWhole_whole _) (Memref.whole cc0_scratch2) (Memref.isWhole_whole _)) K := by
  unfold owns
  rw [cc0_diff_attention_eq_skeleton]; unfold cc0_diff_attention_skel
  have hS0 : (Memref.whole cc0_scratch0 : Memref sig .tc .vmem S5x256x256 .bf16).IsWhole := Memref.isWhole_whole _
  have hS1 : (Memref.whole cc0_scratch1 : Memref sig .tc .vmem S5x1x256 .f32).IsWhole := Memref.isWhole_whole _
  have hS2 : (Memref.whole cc0_scratch2 : Memref sig .tc .vmem S5x136x256 .f32).IsWhole := Memref.isWhole_whole _
  have hT0 : (Memref.whole main_c : Memref sig .tc .smem S91 .i32).IsWhole := Memref.isWhole_whole _
  have hT1 : (Memref.whole main_c_0 : Memref sig .tc .smem S91 .i32).IsWhole := Memref.isWhole_whole _
  by_cases hc0 : Scalar.cmpi .ne (Scalar.extui (Scalar.cmpi .eq (View.readAt (Elt F) (Memref.whole main_c_0).view (Rect.unit (s := S91) (k0_off1 i) S1.size (k0_off1_inb i)).toLoadRect T1 (Shape.Idx.first (numel1_S1.symm ▸ Nat.one_pos))) 0#32) : BitVec 32) 0#32 = 1#1 <;>
  by_cases hc1 : Scalar.cmpi .ne (Scalar.extui (Scalar.cmpi .ne (View.readAt (Elt F) (Memref.whole main_c_0).view (Rect.unit (s := S91) (k0_off1 i) S1.size (k0_off1_inb i)).toLoadRect T1 (Shape.Idx.first (numel1_S1.symm ▸ Nat.one_pos))) (View.readAt (Elt F) (Memref.whole main_c).view (Rect.unit (s := S91) (k0_off1 i) S1.size (k0_off1_inb i)).toLoadRect T0 (Shape.Idx.first (numel1_S1.symm ▸ Nat.one_pos)))) : BitVec 32) 0#32 = 1#1
  all_goals first | have hc2 := not_cond3_of _ _ hc1 | have hc2 := cond3_of_not _ _ hc1
  all_goals
    iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, HT0, HT1, ⟨%s0, HS0⟩, ⟨%s1, HS1⟩, ⟨%s2, HS2⟩, Hk⟩
    sl_exec! (disch := first | exact hc0 | exact hc1 | exact hc2)
    sl_step
    iapply Hk
    isplitl [H0]; · iapply owns_some; iexact H0
    isplitl [H1]; · iapply owns_some; iexact H1
    isplitl [H2]; · iapply owns_some; iexact H2
    isplitl [H3]; · iapply owns_some; iexact H3
    isplitl [H4]; · iapply owns_some; iexact H4
    isplitl [H5]; · iapply owns_some; iexact H5
    isplitl [H6]; · iapply owns_some; iexact H6
    isplitl [H7]; · iapply owns_some; iexact H7
    isplitl [H8]; · iapply owns_some; iexact H8
    isplitl [H9]; · iapply owns_some; iexact H9
    isplitl [HT0]; · iexact HT0
    isplitl [HT1]; · iexact HT1
    isplitl [HS0]; · iexists _; iexact HS0
    isplitl [HS1]; · iexists _; iexact HS1
    iexists _; iexact HS2

end Cert.DiffAttnIdeal.Gen

end
-- ==== Proof.DiffAttnRun.lean ====
/-
  The differential attention's frame: from any launch memory the call runs to its end, its argument arrays end
  unchanged and every semaphore counter is zero again. Written once, for any float values, and read at the two
  programs, whose text is the same. Nothing is said, between grid points, of what the staging, the output's and the
  scratch buffers hold.
-/
module

public import proofs.«01_k».proof.Proof.DiffAttn
public import Idealize.ShloMosaic.Lib.StableHlo.ReadAt
public import proofs.«01_k».proof.Proof.Gen.DiffAttnIdeal.Skeleton

@[expose] public section

set_option maxRecDepth 16384
set_option Elab.async false

noncomputable section

namespace Cert.DiffAttnIdeal.Gen

open Cert.DiffAttnIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: after the host's operations. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

/-- A buffer no host operation writes is found as launched. -/
theorem V_of_ne (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-- The region finds the tables at the host's constants. -/
theorem V_pre (c : Dev nD) (k : Fin 2) : V m c (pre0.ref k) = (adm (F := F)).1 k := by
  fin_cases k
  · show StableHlo.after (hostOps0 (F := F)) (fun b => m (c, b)) main_c = _
    unfold hostOps0
    after_reads_at
    rfl
  · show StableHlo.after (hostOps0 (F := F)) (fun b => m (c, b)) main_c_0 = _
    unfold hostOps0
    after_reads_at
    rfl

/-! ## The proof data -/

/-- Nothing is said of what the body leaves; its invariant is the scratch buffers at some contents and the tables. -/
def dats (_ : Fin 1) (c : Dev nD) : Dat τ (Elt F) Unit ℕ (UR sig nD τ) ℕ (cfgA (F := F)) c where
  A w := V m c (Pipeline.arrRef spec0 w)
  after w t := Dat.unnamed w t
  Φ _ := iprop(Pipeline.ΦA spec0 c ∗ Pipeline.ΦT pre0 (adm (F := F)).1 c)
  q _ := fullShare
  owed _ := 0

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

set_option maxHeartbeats 4000000 in
theorem body_obligation (c : Dev nD) :
    BodyObligation (dats m 0 c) (defs₀ (F := F)) Variants.none () Set.univ (fun _ => true) := fun t => by
  simp only []
  rw [bigSep_W0]
  show iprop((Pipeline.ΦA spec0 c ∗ Pipeline.ΦT pre0 (adm (F := F)).1 c) ∗ (dats m 0 c).owesAt () t.castSucc ∗ _) ⊢ wp frame _ _ _ fun _ =>
    iprop((Pipeline.ΦA spec0 c ∗ Pipeline.ΦT pre0 (adm (F := F)).1 c) ∗ (dats m 0 c).owesAt () t.castSucc ∗ _)
  unfold Pipeline.ΦA Pipeline.ΦT
  rw [prefHeld_eq, scopedRest0_eq]
  iintro ⟨⟨⟨⟨HS0, HS1, HS2⟩, Hr⟩, HT0, HT1⟩, Ho, H0, H1, H2, H3, H4, H5, H6, H7, H8, H9⟩
  iapply (body_run c (grid0.coords t) _ _ _ _ _ _ _ _ _ _ _ _ _ _ _ _ _ _ _ _ ((adm (F := F)).1 0) ((adm (F := F)).1 1) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HT0]; · iexact HT0
  isplitl [HT1]; · iexact HT1
  isplitl [HS0]; · iexact HS0
  isplitl [HS1]; · iexact HS1
  isplitl [HS2]; · iexact HS2
  iintro ⟨H0, H1, H2, H3, H4, H5, H6, H7, H8, H9, HT0, HT1, HS0, HS1, HS2⟩
  isplitl [HS0 HS1 HS2 Hr HT0 HT1]
  · isplitl [HS0 HS1 HS2 Hr]
    · isplitl [HS0 HS1 HS2]
      · isplitl [HS0]; · iexact HS0
        isplitl [HS1]; · iexact HS1
        iexact HS2
      iexact Hr
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run -/

theorem share_eq (c : Dev nD) (w : Fin (cfgA (F := F)).W) : (dats m 0 c).share w = fullShare := by unfold Dat.share; split <;> rfl

set_option backward.isDefEq.respectTransparency.types false in
set_option maxHeartbeats 4000000 in
theorem run_main : θ_run (defs (F := F)) (onTc (τ := τ) (main (F := F))) ⟨m, fun _ => 0, ρ⟩ (fun r =>
    Pipeline.RDat.FramePost (cfgA (F := F)) (fun c => (dats m 0 c).toRForget (fun _ => true)) (V m) r ∧ r.2.sem = fun _ => 0) :=
  Pipeline.θ_run_frameP_forget pcfgs (fun _ => adm) (dats m) 0 launch0 defs₀ Variants.none (fun _ => true) m ρ main
    (hbody := fun c => (body_obligation m c).loose) (hshare := share_eq m) (howed := fun _ _ => rfl)
    (V := V m) (hmain := hmain m) (hA := fun _ _ => rfl) (hpf := V_pre m) (hΦ := fun _ _ => rfl)
    (Q' := fun r => Pipeline.RDat.FramePost (cfgA (F := F)) (fun c => (dats m 0 c).toRForget (fun _ => true)) (V m) r ∧ r.2.sem = fun _ => 0)
    (hQ' := fun _ h => h)

/-- An array the region reads and no host operation writes ends as launched. -/
theorem kept_arr (c : Dev nD) (r : PUnit × MemSt nD τ sig (Elt F))
    (h : Pipeline.RDat.FramePost (cfgA (F := F)) (fun c => (dats m 0 c).toRForget (fun _ => true)) (V m) r)
    (w : Fin 10) (hin : (spec0 w).isOut = false)
    (hw : (hostOps0 : List (HloOp τ sig (Elt F))).Forall fun op => Proc.devRef .tc (Pipeline.arrRef spec0 w) ∉ op.writes) :
    r.2.mem ((c : Thread nD τ).loc (Pipeline.arrRef spec0 w)) = m ((c : Thread nD τ).loc (Pipeline.arrRef spec0 w)) :=
  ((congrFun (Pipeline.RDat.ArrAt_in (rd := (dats m 0 c).toRForget (fun _ => true)) w hin _) _).mp ((h c).1 w)).trans (V_of_ne m c _ hw)

/-- A buffer outside the region that no host operation writes ends as launched. -/
theorem kept_rest (c : Dev nD) (r : PUnit × MemSt nD τ sig (Elt F))
    (h : Pipeline.RDat.FramePost (cfgA (F := F)) (fun c => (dats m 0 c).toRForget (fun _ => true)) (V m) r)
    (b : Ref sig .tc) (hb : b ∈ Pipeline.restRefs sig spec0)
    (hw : (hostOps0 : List (HloOp τ sig (Elt F))).Forall fun op => Proc.devRef .tc b ∉ op.writes) :
    r.2.mem ((c : Thread nD τ).loc b) = m ((c : Thread nD τ).loc b) :=
  ((h c).2 b hb).trans (V_of_ne m c b hw)

set_option maxHeartbeats 1600000 in
/-- Every execution of @main ends, its argument arrays unchanged and every counter zero. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run (defs (F := F)) _ _).mono (fun r h => ⟨fun c => ?_, h.2⟩) (run_main m ρ)
  refine ⟨kept_arr m c r h.1 1 rfl ?_, kept_arr m c r h.1 2 rfl ?_, kept_arr m c r h.1 3 rfl ?_,
    kept_rest m c r h.1 main_arg3 (by decide) ?_, kept_rest m c r h.1 main_arg4 (by decide) ?_,
    kept_rest m c r h.1 main_arg5 (by decide) ?_, kept_rest m c r h.1 main_arg6 (by decide) ?_,
    kept_rest m c r h.1 main_arg7 (by decide) ?_⟩
  all_goals
    simp only [hostOps0, List.Forall, StableHlo.nullary_writes, StableHlo.unary_writes, StableHlo.binary_writes,
      StableHlo.reshape_writes, Finset.mem_singleton]
    repeat' apply And.intro
    all_goals exact StableHlo.devRef_ne_of_ne (by decide)

end Cert.DiffAttnIdeal.Gen

namespace Cert.Proof

open Idealize.ShloMosaic Idealize.SL.Sem

/-- The two programs' bodies, label by label the same. -/
theorem defs₀_same : Cert.DiffAttn.defs₀ (F := Bits) = Cert.DiffAttnIdeal.defs₀ (F := Bits) := by
  unfold Cert.DiffAttn.defs₀ Cert.DiffAttnIdeal.defs₀
  congr 1
  funext l x
  match l, x with
  | ⟨0, _⟩, (t, s) => rfl
  | ⟨n + 1, h⟩, _ => exact absurd h (by omega)

/-- So are their definitions with the pipeline's. -/
theorem defs_same : Cert.DiffAttn.defs (F := Bits) = Cert.DiffAttnIdeal.defs (F := Bits) :=
  congrArg (Pipeline.defs (Cert.DiffAttnIdeal.pcfgs (F := Bits))) defs₀_same

/-- The frames of the two programs. -/
theorem frame_DiffAttnIdeal : Cert.quiescent_DiffAttnIdeal := fun m ρ _ => Cert.DiffAttnIdeal.Gen.run_frame (F := Ideal) m ρ

set_option maxHeartbeats 1600000 in
theorem frame_DiffAttn : Cert.quiescent_DiffAttn := by
  intro m ρ _
  rw [defs_same]
  exact Cert.DiffAttnIdeal.Gen.run_frame (F := Bits) m ρ

end Cert.Proof

end
-- ==== Proof.lean ====
module

public import proofs.«01_k».proof.Defs
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormRefIdeal
public import proofs.«01_k».proof.Proof.Gen.FinalNormRefIdeal.Run
public import proofs.«01_k».proof.Proof.Gen.MixFfn
public import proofs.«01_k».proof.Proof.Gen.MixFfn.Skeleton
public import proofs.«01_k».proof.Proof.Gen.MixFfn.Launch
public import proofs.«01_k».proof.Proof.Gen.MixFfn.Points
public import proofs.«01_k».proof.Proof.Gen.MixFfn.Frame
public import proofs.«01_k».proof.Proof.Gen.MixFfnIdeal
public import proofs.«01_k».proof.Proof.Gen.MixFfnIdeal.Skeleton
public import proofs.«01_k».proof.Proof.Gen.MixFfnIdeal.Launch
public import proofs.«01_k».proof.Proof.Gen.MixFfnIdeal.Points
public import proofs.«01_k».proof.Proof.Gen.MixFfnIdeal.Frame
public import proofs.«01_k».proof.Proof.Gen.MixFfnRefIdeal
public import proofs.«01_k».proof.Proof.Gen.MixFfnRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.OddInS5
public import proofs.«01_k».proof.Proof.Gen.OddInS5.Skeleton
public import proofs.«01_k».proof.Proof.Gen.OddInS5.Launch
public import proofs.«01_k».proof.Proof.Gen.OddInS5.Points
public import proofs.«01_k».proof.Proof.Gen.OddInS5.Frame
public import proofs.«01_k».proof.Proof.Gen.OddInS5Ideal
public import proofs.«01_k».proof.Proof.Gen.OddInS5Ideal.Skeleton
public import proofs.«01_k».proof.Proof.Gen.OddInS5Ideal.Launch
public import proofs.«01_k».proof.Proof.Gen.OddInS5Ideal.Points
public import proofs.«01_k».proof.Proof.Gen.OddInS5Ideal.Frame
public import proofs.«01_k».proof.Proof.Gen.OddInS5RefIdeal
public import proofs.«01_k».proof.Proof.Gen.OddInS5RefIdeal.Run
public import proofs.«01_k».proof.Proof.Gen.OddInRw
public import proofs.«01_k».proof.Proof.Gen.OddInRw.Skeleton
public import proofs.«01_k».proof.Proof.Gen.OddInRw.Launch
public import proofs.«01_k».proof.Proof.Gen.OddInRw.Points
public import proofs.«01_k».proof.Proof.Gen.OddInRw.Frame
public import proofs.«01_k».proof.Proof.Gen.OddInRwIdeal
public import proofs.«01_k».proof.Proof.Gen.OddInRwIdeal.Skeleton
public import proofs.«01_k».proof.Proof.Gen.OddInRwIdeal.Launch
public import proofs.«01_k».proof.Proof.Gen.OddInRwIdeal.Points
public import proofs.«01_k».proof.Proof.Gen.OddInRwIdeal.Frame
public import proofs.«01_k».proof.Proof.Gen.OddInRwRefIdeal
public import proofs.«01_k».proof.Proof.Gen.OddInRwRefIdeal.Run
public import proofs.«01_k».proof.Proof.Gen.S5Post
public import proofs.«01_k».proof.Proof.Gen.S5Post.Skeleton
public import proofs.«01_k».proof.Proof.Gen.S5Post.Launch
public import proofs.«01_k».proof.Proof.Gen.S5Post.Points
public import proofs.«01_k».proof.Proof.Gen.S5Post.Frame
public import proofs.«01_k».proof.Proof.Gen.S5PostIdeal
public import proofs.«01_k».proof.Proof.Gen.S5PostIdeal.Skeleton
public import proofs.«01_k».proof.Proof.Gen.S5PostIdeal.Launch
public import proofs.«01_k».proof.Proof.Gen.S5PostIdeal.Points
public import proofs.«01_k».proof.Proof.Gen.S5PostIdeal.Frame
public import proofs.«01_k».proof.Proof.Gen.S5PostRefIdeal
public import proofs.«01_k».proof.Proof.Gen.S5PostRefIdeal.Run
public import proofs.«01_k».proof.Proof.Gen.S5Disc
public import proofs.«01_k».proof.Proof.Gen.S5Disc.Skeleton
public import proofs.«01_k».proof.Proof.Gen.S5Disc.Launch
public import proofs.«01_k».proof.Proof.Gen.S5Disc.Points
public import proofs.«01_k».proof.Proof.Gen.S5Disc.Frame
public import proofs.«01_k».proof.Proof.Gen.S5DiscIdeal
public import proofs.«01_k».proof.Proof.Gen.S5DiscIdeal.Skeleton
public import proofs.«01_k».proof.Proof.Gen.S5DiscIdeal.Launch
public import proofs.«01_k».proof.Proof.Gen.S5DiscIdeal.Points
public import proofs.«01_k».proof.Proof.Gen.S5DiscIdeal.Frame
public import proofs.«01_k».proof.Proof.Gen.S5DiscRefIdeal
public import proofs.«01_k».proof.Proof.Gen.S5DiscRefIdeal.Run
public import proofs.«01_k».proof.Proof.Gen.AttnPrep
public import proofs.«01_k».proof.Proof.Gen.AttnPrep.Skeleton
public import proofs.«01_k».proof.Proof.Gen.AttnPrep.Launch
public import proofs.«01_k».proof.Proof.Gen.AttnPrep.Points
public import proofs.«01_k».proof.Proof.Gen.AttnPrep.Frame
public import proofs.«01_k».proof.Proof.Gen.AttnPrepIdeal
public import proofs.«01_k».proof.Proof.Gen.AttnPrepIdeal.Skeleton
public import proofs.«01_k».proof.Proof.Gen.AttnPrepIdeal.Launch
public import proofs.«01_k».proof.Proof.Gen.AttnPrepIdeal.Points
public import proofs.«01_k».proof.Proof.Gen.AttnPrepIdeal.Frame
public import proofs.«01_k».proof.Proof.Gen.AttnPrepRefIdeal
public import proofs.«01_k».proof.Proof.Gen.AttnPrepRefIdeal.Run
public import proofs.«01_k».proof.Proof.Gen.DiffAttn
public import proofs.«01_k».proof.Proof.Gen.DiffAttn.Skeleton
public import proofs.«01_k».proof.Proof.Gen.DiffAttn.Launch
public import proofs.«01_k».proof.Proof.Gen.DiffAttnIdeal
public import proofs.«01_k».proof.Proof.Gen.DiffAttnIdeal.Skeleton
public import proofs.«01_k».proof.Proof.Gen.DiffAttnIdeal.Launch
public import proofs.«01_k».proof.Proof.FinalNorm
public import proofs.«01_k».proof.Proof.MixFfn
public import proofs.«01_k».proof.Proof.InProj
public import proofs.«01_k».proof.Proof.OddInS5
public import proofs.«01_k».proof.Proof.OddInRw
public import proofs.«01_k».proof.Proof.S5Post
public import proofs.«01_k».proof.Proof.S5Disc
public import proofs.«01_k».proof.Proof.AttnPrep
public import proofs.«01_k».proof.Proof.DiffAttnRun
public import Idealize.ShloMosaic.Adequacy
public import Idealize.ShloMosaic.Init

@[expose] public section

noncomputable section

namespace Cert.Proof

open Idealize.ShloMosaic Idealize.SL.Sem Cert.FinalNorm

theorem claim : Cert.Claim := ⟨Cert.FinalNorm.Gen.facts, Cert.FinalNormIdeal.Gen.facts, Cert.FinalNormRefIdeal.Gen.facts, Cert.MixFfn.Gen.facts, Cert.MixFfnIdeal.Gen.facts, Cert.MixFfnRefIdeal.Gen.facts, Cert.InProj.Gen.facts, Cert.InProjIdeal.Gen.facts, Cert.InProjRefIdeal.Gen.facts, Cert.OddInS5.Gen.facts, Cert.OddInS5Ideal.Gen.facts, Cert.OddInS5RefIdeal.Gen.facts, Cert.OddInRw.Gen.facts, Cert.OddInRwIdeal.Gen.facts, Cert.OddInRwRefIdeal.Gen.facts, Cert.S5Post.Gen.facts, Cert.S5PostIdeal.Gen.facts, Cert.S5PostRefIdeal.Gen.facts, Cert.S5Disc.Gen.facts, Cert.S5DiscIdeal.Gen.facts, Cert.S5DiscRefIdeal.Gen.facts, Cert.AttnPrep.Gen.facts, Cert.AttnPrepIdeal.Gen.facts, Cert.AttnPrepRefIdeal.Gen.facts, Cert.DiffAttn.Gen.facts, Cert.DiffAttnIdeal.Gen.facts,
   Cert.Proof.FinalNorm.frame_p, Cert.Proof.FinalNorm.frame_pi, Cert.Proof.FinalNorm.frame_ri,
   Cert.Proof.MixFfn.frame_p, Cert.Proof.MixFfn.frame_pi, Cert.Proof.MixFfn.frame_ri,
   Cert.Proof.InProj.frame_p, Cert.Proof.InProj.frame_pi, Cert.Proof.InProj.frame_ri,
   Cert.Proof.OddInS5.frame_p, Cert.Proof.OddInS5.frame_pi, Cert.Proof.OddInS5.frame_ri,
   Cert.Proof.OddInRw.frame_p, Cert.Proof.OddInRw.frame_pi, Cert.Proof.OddInRw.frame_ri,
   Cert.Proof.S5Post.frame_p, Cert.Proof.S5Post.frame_pi, Cert.Proof.S5Post.frame_ri,
   Cert.Proof.S5Disc.frame_p, Cert.Proof.S5Disc.frame_pi, Cert.Proof.S5Disc.frame_ri,
   Cert.Proof.AttnPrep.frame_p, Cert.Proof.AttnPrep.frame_pi, Cert.Proof.AttnPrep.frame_ri,
   Cert.Proof.frame_DiffAttn, Cert.Proof.frame_DiffAttnIdeal,
   trivial, Cert.Proof.FinalNorm.algebraic,
   trivial, Cert.Proof.MixFfn.algebraic,
   trivial, Cert.Proof.InProj.algebraic,
   trivial, Cert.Proof.OddInS5.algebraic,
   trivial, Cert.Proof.OddInRw.algebraic,
   trivial, Cert.Proof.S5Post.algebraic,
   trivial, Cert.Proof.S5Disc.algebraic,
   trivial, Cert.Proof.AttnPrep.algebraic,
   trivial⟩

end Cert.Proof

end
